-- ==== Defs.lean ====
def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v2_0)) (v1 : (c : Dev Cert.NormIdeal.nD) → Buf (Elt Ideal) ((c.tc : Thread Cert.NormIdeal.nD Cert.NormIdeal.τ).loc Cert.NormIdeal.main_v2_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v2_0) = v0 c
          ∧ r.2.mem ((c.tc : Thread Cert.NormIdeal.nD Cert.NormIdeal.τ).loc Cert.NormIdeal.main_v2_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v2_0) = v0 c
          ∧ r.2.mem ((c.tc : Thread Cert.NormRefIdeal.nD Cert.NormRefIdeal.τ).loc Cert.NormRefIdeal.main_v2_1) = v1 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v23_0)) (v1 : (c : Dev Cert.ProjIdeal.nD) → Buf (Elt Ideal) ((c.tc : Thread Cert.ProjIdeal.nD Cert.ProjIdeal.τ).loc Cert.ProjIdeal.main_v23_1)) (v2 : (c : Dev Cert.ProjIdeal.nD) → Buf (Elt Ideal) ((c.tc : Thread Cert.ProjIdeal.nD Cert.ProjIdeal.τ).loc Cert.ProjIdeal.main_v23_2)) (v3 : (c : Dev Cert.ProjIdeal.nD) → Buf (Elt Ideal) ((c.tc : Thread Cert.ProjIdeal.nD Cert.ProjIdeal.τ).loc Cert.ProjIdeal.main_v23_3)) (v4 : (c : Dev Cert.ProjIdeal.nD) → Buf (Elt Ideal) ((c.tc : Thread Cert.ProjIdeal.nD Cert.ProjIdeal.τ).loc Cert.ProjIdeal.main_v23_4)) (v5 : (c : Dev Cert.ProjIdeal.nD) → Buf (Elt Ideal) ((c.tc : Thread Cert.ProjIdeal.nD Cert.ProjIdeal.τ).loc Cert.ProjIdeal.main_v23_5)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v23_0) = v0 c
          ∧ r.2.mem ((c.tc : Thread Cert.ProjIdeal.nD Cert.ProjIdeal.τ).loc Cert.ProjIdeal.main_v23_1) = v1 c
          ∧ r.2.mem ((c.tc : Thread Cert.ProjIdeal.nD Cert.ProjIdeal.τ).loc Cert.ProjIdeal.main_v23_2) = v2 c
          ∧ r.2.mem ((c.tc : Thread Cert.ProjIdeal.nD Cert.ProjIdeal.τ).loc Cert.ProjIdeal.main_v23_3) = v3 c
          ∧ r.2.mem ((c.tc : Thread Cert.ProjIdeal.nD Cert.ProjIdeal.τ).loc Cert.ProjIdeal.main_v23_4) = v4 c
          ∧ r.2.mem ((c.tc : Thread Cert.ProjIdeal.nD Cert.ProjIdeal.τ).loc Cert.ProjIdeal.main_v23_5) = v5 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v21) = v0 c
          ∧ r.2.mem ((c.tc : Thread Cert.ProjRefIdeal.nD Cert.ProjRefIdeal.τ).loc Cert.ProjRefIdeal.main_v22) = v1 c
          ∧ r.2.mem ((c.tc : Thread Cert.ProjRefIdeal.nD Cert.ProjRefIdeal.τ).loc Cert.ProjRefIdeal.main_v23) = v2 c
          ∧ r.2.mem ((c.tc : Thread Cert.ProjRefIdeal.nD Cert.ProjRefIdeal.τ).loc Cert.ProjRefIdeal.main_v24) = v3 c
          ∧ r.2.mem ((c.tc : Thread Cert.ProjRefIdeal.nD Cert.ProjRefIdeal.τ).loc Cert.ProjRefIdeal.main_v25) = v4 c
          ∧ r.2.mem ((c.tc : Thread Cert.ProjRefIdeal.nD Cert.ProjRefIdeal.τ).loc Cert.ProjRefIdeal.main_v26) = v5 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def Claim : Prop :=
  ∃ (hNorm : Cert.Norm.Facts) (hNormIdeal : Cert.NormIdeal.Facts) (hNormRefIdeal : Cert.NormRefIdeal.Facts) (hProj : Cert.Proj.Facts) (hProjIdeal : Cert.ProjIdeal.Facts) (hProjRefIdeal : Cert.ProjRefIdeal.Facts),
    quiescent_Norm (hNorm := hNorm)
    ∧ quiescent_NormIdeal (hNormIdeal := hNormIdeal)
    ∧ quiescent_NormRefIdeal (hNormRefIdeal := hNormRefIdeal)
    ∧ quiescent_Proj (hProj := hProj)
    ∧ quiescent_ProjIdeal (hProjIdeal := hProjIdeal)
    ∧ quiescent_ProjRefIdeal (hProjRefIdeal := hProjRefIdeal)
    ∧ preserves_Norm_NormIdeal
    ∧ algebraic_NormIdeal_NormRefIdeal (hNormIdeal := hNormIdeal) (hNormRefIdeal := hNormRefIdeal)
    ∧ preserves_Proj_ProjIdeal
    ∧ algebraic_ProjIdeal_ProjRefIdeal (hProjIdeal := hProjIdeal) (hProjRefIdeal := hProjRefIdeal)
-- ==== Norm.lean ====
abbrev S2x1536x7168 : Shape := ⟨3, ![2, 1536, 7168]⟩
abbrev S7168 : Shape := ⟨1, ![7168]⟩
abbrev S3072x7168 : Shape := ⟨2, ![3072, 7168]⟩
abbrev S1x7168 : Shape := ⟨2, ![1, 7168]⟩
abbrev S3072x128 : Shape := ⟨2, ![3072, 128]⟩
abbrev S128x7168 : Shape := ⟨2, ![128, 7168]⟩
abbrev S128x128 : Shape := ⟨2, ![128, 128]⟩
abbrev S8x128 : Shape := ⟨2, ![8, 128]⟩
abbrev S1x128 : Shape := ⟨2, ![1, 128]⟩
abbrev S128 : Shape := ⟨1, ![128]⟩
abbrev S128x1 : Shape := ⟨2, ![128, 1]⟩
abbrev S128x256 : Shape := ⟨2, ![128, 256]⟩

abbrev nBuf : Space → Nat
  | .hbm => 6
  | .vmem => 7
  | .smem => 0
  | _ => 0

abbrev bufTy : (tb : Table) → Fin (tcTables nBuf tb) → BufTy
  | .hbm, ⟨0, _⟩ => ⟨S2x1536x7168, .bf16⟩
  | .hbm, ⟨1, _⟩ => ⟨S7168, .bf16⟩
  | .hbm, ⟨2, _⟩ => ⟨S3072x7168, .bf16⟩
  | .hbm, ⟨3, _⟩ => ⟨S1x7168, .bf16⟩
  | .hbm, ⟨4, _⟩ => ⟨S3072x7168, .fp8e4m3⟩
  | .hbm, ⟨5, _⟩ => ⟨S3072x128, .f32⟩
  | .local _ .vmem, ⟨0, _⟩ => ⟨S128x7168, .bf16⟩
  | .local _ .vmem, ⟨1, _⟩ => ⟨S128x7168, .bf16⟩
  | .local _ .vmem, ⟨2, _⟩ => ⟨S1x7168, .bf16⟩
  | .local _ .vmem, ⟨3, _⟩ => ⟨S128x7168, .fp8e4m3⟩
  | .local _ .vmem, ⟨4, _⟩ => ⟨S128x7168, .fp8e4m3⟩
  | .local _ .vmem, ⟨5, _⟩ => ⟨S128x128, .f32⟩
  | .local _ .vmem, ⟨6, _⟩ => ⟨S128x128, .f32⟩
  | _, _ => ⟨S2x1536x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x7168 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormRefIdeal.lean ====
abbrev S2x1536x7168 : Shape := ⟨3, ![2, 1536, 7168]⟩
abbrev S7168 : Shape := ⟨1, ![7168]⟩
abbrev S3072x7168 : Shape := ⟨2, ![3072, 7168]⟩
abbrev S1x7168 : Shape := ⟨2, ![1, 7168]⟩
abbrev S3072x128 : Shape := ⟨2, ![3072, 128]⟩
abbrev S3072 : Shape := ⟨1, ![3072]⟩
abbrev S3072x1 : Shape := ⟨2, ![3072, 1]⟩
abbrev S3072x252 : Shape := ⟨2, ![3072, 252]⟩

abbrev nBuf : Space → Nat
  | .hbm => 6
  | .vmem => 4
  | .smem => 0
  | _ => 0

abbrev bufTy : (tb : Table) → Fin (tcTables nBuf tb) → BufTy
  | .hbm, ⟨0, _⟩ => ⟨S2x1536x7168, .bf16⟩
  | .hbm, ⟨1, _⟩ => ⟨S7168, .bf16⟩
  | .hbm, ⟨2, _⟩ => ⟨S3072x7168, .bf16⟩
  | .hbm, ⟨3, _⟩ => ⟨S1x7168, .bf16⟩
  | .hbm, ⟨4, _⟩ => ⟨S3072x7168, .fp8e4m3⟩
  | .hbm, ⟨5, _⟩ => ⟨S3072x128, .f32⟩
  | .local _ .vmem, ⟨0, _⟩ => ⟨S3072x7168, .bf16⟩
  | .local _ .vmem, ⟨1, _⟩ => ⟨S1x7168, .bf16⟩
  | .local _ .vmem, ⟨2, _⟩ => ⟨S3072x7168, .fp8e4m3⟩
  | .local _ .vmem, ⟨3, _⟩ => ⟨S3072x128, .f32⟩
  | _, _ => ⟨S2x1536x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S3072x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3072x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3072x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proj.lean ====
abbrev S3072x7168 : Shape := ⟨2, ![3072, 7168]⟩
abbrev S3072x128 : Shape := ⟨2, ![3072, 128]⟩
abbrev S7168x49152 : Shape := ⟨2, ![7168, 49152]⟩
abbrev S49152 : Shape := ⟨1, ![49152]⟩
abbrev S2x1536 : Shape := ⟨2, ![2, 1536]⟩
abbrev S64 : Shape := ⟨1, ![64]⟩
abbrev S_ : Shape := ⟨0, ![]⟩
abbrev S3072 : Shape := ⟨1, ![3072]⟩
abbrev S3072x1 : Shape := ⟨2, ![3072, 1]⟩
abbrev S1x64 : Shape := ⟨2, ![1, 64]⟩
abbrev S3072x64 : Shape := ⟨2, ![3072, 64]⟩
abbrev S1x49152 : Shape := ⟨2, ![1, 49152]⟩
abbrev S3072x16384 : Shape := ⟨2, ![3072, 16384]⟩
abbrev S512x7168 : Shape := ⟨2, ![512, 7168]⟩
abbrev S512x128 : Shape := ⟨2, ![512, 128]⟩
abbrev S7168x512 : Shape := ⟨2, ![7168, 512]⟩
abbrev S1x512 : Shape := ⟨2, ![1, 512]⟩
abbrev S512x512 : Shape := ⟨2, ![512, 512]⟩
abbrev S1x128 : Shape := ⟨2, ![1, 128]⟩
abbrev S512 : Shape := ⟨1, ![512]⟩
abbrev S512x1 : Shape := ⟨2, ![512, 1]⟩
abbrev S512x256 : Shape := ⟨2, ![512, 256]⟩

abbrev nBuf : Space → Nat
  | .hbm => 38
  | .vmem => 24
  | .smem => 0
  | _ => 0

abbrev bufTy : (tb : Table) → Fin (tcTables nBuf tb) → BufTy
  | .hbm, ⟨0, _⟩ => ⟨S3072x7168, .fp8e4m3⟩
  | .hbm, ⟨1, _⟩ => ⟨S3072x128, .f32⟩
  | .hbm, ⟨2, _⟩ => ⟨S7168x49152, .fp8e4m3⟩
  | .hbm, ⟨3, _⟩ => ⟨S49152, .f32⟩
  | .hbm, ⟨4, _⟩ => ⟨S2x1536, .i32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S3072, .i32⟩
  | .hbm, ⟨20, _⟩ => ⟨S3072, .f32⟩
  | .hbm, ⟨21, _⟩ => ⟨S3072x1, .f32⟩
  | .hbm, ⟨22, _⟩ => ⟨S1x64, .f32⟩
  | .hbm, ⟨23, _⟩ => ⟨S3072x64, .f32⟩
  | .hbm, ⟨24, _⟩ => ⟨S3072x64, .f32⟩
  | .hbm, ⟨25, _⟩ => ⟨S3072x64, .f32⟩
  | .hbm, ⟨26, _⟩ => ⟨S3072x64, .f32⟩
  | .hbm, ⟨27, _⟩ => ⟨S3072x64, .f32⟩
  | .hbm, ⟨28, _⟩ => ⟨S3072x128, .f32⟩
  | .hbm, ⟨29, _⟩ => ⟨S3072x64, .f32⟩
  | .hbm, ⟨30, _⟩ => ⟨S3072x128, .f32⟩
  | .hbm, ⟨31, _⟩ => ⟨S1x49152, .f32⟩
  | .hbm, ⟨32, _⟩ => ⟨S3072x16384, .fp8e4m3⟩
  | .hbm, ⟨33, _⟩ => ⟨S3072x128, .f32⟩
  | .hbm, ⟨34, _⟩ => ⟨S3072x16384, .fp8e4m3⟩
  | .hbm, ⟨35, _⟩ => ⟨S3072x128, .f32⟩
  | .hbm, ⟨36, _⟩ => ⟨S3072x16384, .fp8e4m3⟩
  | .hbm, ⟨37, _⟩ => ⟨S3072x128, .f32⟩
  | .local _ .vmem, ⟨0, _⟩ => ⟨S512x7168, .fp8e4m3⟩
  | .local _ .vmem, ⟨1, _⟩ => ⟨S512x7168, .fp8e4m3⟩
  | .local _ .vmem, ⟨2, _⟩ => ⟨S512x128, .f32⟩
  | .local _ .vmem, ⟨3, _⟩ => ⟨S512x128, .f32⟩
  | .local _ .vmem, ⟨4, _⟩ => ⟨S7168x512, .fp8e4m3⟩
  | .local _ .vmem, ⟨5, _⟩ => ⟨S7168x512, .fp8e4m3⟩
  | .local _ .vmem, ⟨6, _⟩ => ⟨S1x512, .f32⟩
  | .local _ .vmem, ⟨7, _⟩ => ⟨S1x512, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x512, .fp8e4m3⟩
  | .local _ .vmem, ⟨13, _⟩ => ⟨S512x512, .fp8e4m3⟩
  | .local _ .vmem, ⟨14, _⟩ => ⟨S512x128, .f32⟩
  | .local _ .vmem, ⟨15, _⟩ => ⟨S512x128, .f32⟩
  | .local _ .vmem, ⟨16, _⟩ => ⟨S512x512, .fp8e4m3⟩
  | .local _ .vmem, ⟨17, _⟩ => ⟨S512x512, .fp8e4m3⟩
  | .local _ .vmem, ⟨18, _⟩ => ⟨S512x128, .f32⟩
  | .local _ .vmem, ⟨19, _⟩ => ⟨S512x128, .f32⟩
  | .local _ .vmem, ⟨20, _⟩ => ⟨S512x512, .fp8e4m3⟩
  | .local _ .vmem, ⟨21, _⟩ => ⟨S512x512, .fp8e4m3⟩
  | .local _ .vmem, ⟨22, _⟩ => ⟨S512x128, .f32⟩
  | .local _ .vmem, ⟨23, _⟩ => ⟨S512x128, .f32⟩
  | _, _ => ⟨S3072x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23_0 : Ref sig .tc := ⟨.hbm, 32, rfl⟩
abbrev main_v23_1 : Ref sig .tc := ⟨.hbm, 33, rfl⟩
abbrev main_v23_2 : Ref sig .tc := ⟨.hbm, 34, rfl⟩
abbrev main_v23_3 : Ref sig .tc := ⟨.hbm, 35, rfl⟩
abbrev main_v23_4 : Ref sig .tc := ⟨.hbm, 36, rfl⟩
abbrev main_v23_5 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![6, 96], ![false, false]⟩

def k0_cond1 (i : grid0.Coords) : BitVec 1 :=
  let arg1 : BitVec 32 := BitVec.ofNat 32 (i 1).val
  let c32_i32 : BitVec 32 := 32#32
  let v3 : BitVec 1 := Scalar.cmpi .slt arg1 c32_i32
  let v4 : BitVec 32 := Scalar.extui v3
  let c0_i32 : BitVec 32 := 0#32
  let v5 : BitVec 1 := Scalar.cmpi .ne v4 c0_i32
  v5

def k0_cond2 (i : grid0.Coords) : BitVec 1 :=
  let arg1 : BitVec 32 := BitVec.ofNat 32 (i 1).val
  let c32_i32_3 : BitVec 32 := 32#32
  let v6 : BitVec 1 := Scalar.cmpi .sge arg1 c32_i32_3
  let c64_i32 : BitVec 32 := 64#32
  let v7 : BitVec 1 := Scalar.cmpi .slt arg1 c64_i32
  let v8 : BitVec 1 := Scalar.andi v6 v7
  let v9 : BitVec 32 := Scalar.extui v8
  let c0_i32_4 : BitVec 32 := 0#32
  let v10 : BitVec 1 := Scalar.cmpi .ne v9 c0_i32_4
  v10

def k0_cond3 (i : grid0.Coords) : BitVec 1 :=
  let arg1 : BitVec 32 := BitVec.ofNat 32 (i 1).val
  let c64_i32_5 : BitVec 32 := 64#32
  let v11 : BitVec 1 := Scalar.cmpi .sge arg1 c64_i32_5
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c31_i32 : BitVec 32 := 31#32
  let v1 : BitVec 32 := Scalar.maxsi c0_i32_0 v0
  let v2 : BitVec 32 := Scalar.minsi c31_i32 v1
  let c0_i32_1 : BitVec 32 := 0#32
  ![arg0.toNat, v2.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi arg1 c32_i32
  let c0_i32 : BitVec 32 := 0#32
  let c31_i32 : BitVec 32 := 31#32
  let v1 : BitVec 32 := Scalar.maxsi c0_i32 v0
  let v2 : BitVec 32 := Scalar.minsi c31_i32 v1
  let c0_i32_0 : BitVec 32 := 0#32
  ![arg0.toNat, v2.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.subi arg1 c64_i32
  let c0_i32 : BitVec 32 := 0#32
  let c31_i32 : BitVec 32 := 31#32
  let v1 : BitVec 32 := Scalar.maxsi c0_i32 v0
  let v2 : BitVec 32 := Scalar.minsi c31_i32 v1
  let c0_i32_0 : BitVec 32 := 0#32
  ![arg0.toNat, v2.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x7168 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S7168x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x512 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x512 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x512 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ProjRefIdeal.lean ====
abbrev S3072x7168 : Shape := ⟨2, ![3072, 7168]⟩
abbrev S3072x128 : Shape := ⟨2, ![3072, 128]⟩
abbrev S7168x49152 : Shape := ⟨2, ![7168, 49152]⟩
abbrev S49152 : Shape := ⟨1, ![49152]⟩
abbrev S2x1536 : Shape := ⟨2, ![2, 1536]⟩
abbrev S64 : Shape := ⟨1, ![64]⟩
abbrev S_ : Shape := ⟨0, ![]⟩
abbrev S3072 : Shape := ⟨1, ![3072]⟩
abbrev S3072x1 : Shape := ⟨2, ![3072, 1]⟩
abbrev S1x64 : Shape := ⟨2, ![1, 64]⟩
abbrev S3072x64 : Shape := ⟨2, ![3072, 64]⟩
abbrev S384x128 : Shape := ⟨2, ![384, 128]⟩
abbrev S3072x128x128 : Shape := ⟨3, ![3072, 128, 128]⟩
abbrev S3072x128x1 : Shape := ⟨3, ![3072, 128, 1]⟩
abbrev S3072x1x64 : Shape := ⟨3, ![3072, 1, 64]⟩
abbrev S3072x49152 : Shape := ⟨2, ![3072, 49152]⟩
abbrev S3072x384x128 : Shape := ⟨3, ![3072, 384, 128]⟩
abbrev S3072x1x128 : Shape := ⟨3, ![3072, 1, 128]⟩
abbrev S1x384x128 : Shape := ⟨3, ![1, 384, 128]⟩
abbrev S3072x128x64 : Shape := ⟨3, ![3072, 128, 64]⟩
abbrev S3072x128x252 : Shape := ⟨3, ![3072, 128, 252]⟩
abbrev S3072x16384 : Shape := ⟨2, ![3072, 16384]⟩

abbrev nBuf : Space → Nat
  | .hbm => 41
  | .vmem => 12
  | .smem => 0
  | _ => 0

abbrev bufTy : (tb : Table) → Fin (tcTables nBuf tb) → BufTy
  | .hbm, ⟨0, _⟩ => ⟨S3072x7168, .fp8e4m3⟩
  | .hbm, ⟨1, _⟩ => ⟨S3072x128, .f32⟩
  | .hbm, ⟨2, _⟩ => ⟨S7168x49152, .fp8e4m3⟩
  | .hbm, ⟨3, _⟩ => ⟨S49152, .f32⟩
  | .hbm, ⟨4, _⟩ => ⟨S2x1536, .i32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S3072, .i32⟩
  | .hbm, ⟨20, _⟩ => ⟨S3072, .f32⟩
  | .hbm, ⟨21, _⟩ => ⟨S3072x1, .f32⟩
  | .hbm, ⟨22, _⟩ => ⟨S1x64, .f32⟩
  | .hbm, ⟨23, _⟩ => ⟨S3072x64, .f32⟩
  | .hbm, ⟨24, _⟩ => ⟨S3072x64, .f32⟩
  | .hbm, ⟨25, _⟩ => ⟨S3072x64, .f32⟩
  | .hbm, ⟨26, _⟩ => ⟨S384x128, .f32⟩
  | .hbm, ⟨27, _⟩ => ⟨S3072x64, .f32⟩
  | .hbm, ⟨28, _⟩ => ⟨S3072x64, .f32⟩
  | .hbm, ⟨29, _⟩ => ⟨S3072x128x128, .fp8e4m3⟩
  | .hbm, ⟨30, _⟩ => ⟨S3072x128x1, .f32⟩
  | .hbm, ⟨31, _⟩ => ⟨S3072x128x128, .fp8e4m3⟩
  | .hbm, ⟨32, _⟩ => ⟨S3072x128x1, .f32⟩
  | .hbm, ⟨33, _⟩ => ⟨S3072x128x128, .fp8e4m3⟩
  | .hbm, ⟨34, _⟩ => ⟨S3072x128x1, .f32⟩
  | .hbm, ⟨35, _⟩ => ⟨S3072x16384, .fp8e4m3⟩
  | .hbm, ⟨36, _⟩ => ⟨S3072x128, .f32⟩
  | .hbm, ⟨37, _⟩ => ⟨S3072x16384, .fp8e4m3⟩
  | .hbm, ⟨38, _⟩ => ⟨S3072x128, .f32⟩
  | .hbm, ⟨39, _⟩ => ⟨S3072x16384, .fp8e4m3⟩
  | .hbm, ⟨40, _⟩ => ⟨S3072x128, .f32⟩
  | .local _ .vmem, ⟨0, _⟩ => ⟨S3072x7168, .fp8e4m3⟩
  | .local _ .vmem, ⟨1, _⟩ => ⟨S3072x128, .f32⟩
  | .local _ .vmem, ⟨2, _⟩ => ⟨S7168x49152, .fp8e4m3⟩
  | .local _ .vmem, ⟨3, _⟩ => ⟨S384x128, .f32⟩
  | .local _ .vmem, ⟨4, _⟩ => ⟨S3072x64, .f32⟩
  | .local _ .vmem, ⟨5, _⟩ => ⟨S3072x64, .f32⟩
  | .local _ .vmem, ⟨6, _⟩ => ⟨S3072x128x128, .fp8e4m3⟩
  | .local _ .vmem, ⟨7, _⟩ => ⟨S3072x128x1, .f32⟩
  | .local _ .vmem, ⟨8, _⟩ => ⟨S3072x128x128, .fp8e4m3⟩
  | .local _ .vmem, ⟨9, _⟩ => ⟨S3072x128x1, .f32⟩
  | .local _ .vmem, ⟨10, _⟩ => ⟨S3072x128x128, .fp8e4m3⟩
  | .local _ .vmem, ⟨11, _⟩ => ⟨S3072x128x1, .f32⟩
  | _, _ => ⟨S3072x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20_0 : Ref sig .tc := ⟨.hbm, 29, rfl⟩
abbrev main_v20_1 : Ref sig .tc := ⟨.hbm, 30, rfl⟩
abbrev main_v20_2 : Ref sig .tc := ⟨.hbm, 31, rfl⟩
abbrev main_v20_3 : Ref sig .tc := ⟨.hbm, 32, rfl⟩
abbrev main_v20_4 : Ref sig .tc := ⟨.hbm, 33, rfl⟩
abbrev main_v20_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S3072x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7168x49152 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S384x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3072x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3072x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3072x128x128 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3072x128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3072x128x128 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3072x128x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3072x128x128 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3072x128x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Quant.lean ====
module

public import Idealize.ShloMosaic.PureOps
public import Idealize.ShloMosaic.PureOps.Ideal.Laws
public import Mathlib.Data.Finset.Fold
public import Mathlib.Data.Finset.Lattice.Fold
public import Mathlib.Data.Nat.Find
public import Mathlib.Tactic.Linarith
public import Mathlib.Tactic.NormNum
public import Mathlib.Tactic.Ring
public import Mathlib.Tactic.Push

@[expose] public section

set_option maxRecDepth 8192

noncomputable section

/-! # The quantiser of one row, over the scalar operations

The kernel finds a row's power-of-two scale among the 252 exponent FIELDS of a 32-bit float (the largest field whose power of
two does not exceed `amax / 448`) and builds the scale and its inverse from that field; the reference takes the least power of
two above `amax / 448` and divides. Over the extended reals the two agree for every row maximum. -/

namespace Cert.Quant

open Idealize.ShloMosaic

variable {F : FTy → Type} [FloatOps F]

/-- Exponent field number `x`, in place. -/
def field (x : Fin 256) : BitVec 32 := IntOp.muli (IntOp.minsi (BitVec.ofNat 32 x.val) 252#32) 8388608#32

/-- A row maximum over 448, as the kernel has it. -/
def over (M : F .f32) : F .f32 := FloatOps.mulf M (FloatOps.ofBits .f32 991054117#32)

/-- The largest field whose power of two the row's maximum over 448 reaches; 0 if none. -/
def expo (M : F .f32) : BitVec 32 :=
  (Finset.univ : Finset (Fin 256)).fold IntOp.maxsi 2147483648#32 fun x =>
    Scalar.select (FloatOps.cmpf .oge (over M) (FloatOps.ofBits .f32 (field x))) (field x) 0#32

/-- The field the scale is built from: one half's if the maximum is below every power. -/
def bits (M : F .f32) : BitVec 32 := Scalar.select (IntOp.cmpi .eq (expo M) 0#32) 1056964608#32 (expo M)

/-- The kernel's scale of a row of maximum `M`. -/
def scale (M : F .f32) : F .f32 := FloatOps.ofBits .f32 (IntOp.addi (bits M) 8388608#32)

/-- The kernel's inverse scale. -/
def inv (M : F .f32) : F .f32 := FloatOps.ofBits .f32 (IntOp.subi 2122317824#32 (bits M))

/-- A value times an inverse scale, clipped and rounded to fp8. -/
def code (v s : F .f32) : F .fp8e4m3 :=
  FloatOps.truncf .fp8e4m3 (by decide) (FloatOps.minimumf (FloatOps.ofBits .f32 1138753536#32)
    (FloatOps.maximumf (FloatOps.ofBits .f32 3286237184#32) (FloatOps.mulf v s)))

/-- The reference's power number `k`. -/
def power (k : Fin 252) : F .f32 := FloatOps.exp2 (FloatOps.subf (FloatOps.sitofp .f32 (BitVec.ofNat 32 k.val)) (FloatOps.ofBits .f32 1123680256#32))

/-- What the reference minimises over: the power if it is above `a`, else the largest. -/
def cand (a : F .f32) (k : Fin 252) : F .f32 := Scalar.select (FloatOps.cmpf .olt a (power k)) (power k) (FloatOps.ofBits .f32 2122317824#32)

/-- The reference's scale, from the least candidate `p`. -/
def refScale (a p : F .f32) : F .f32 := Scalar.select (FloatOps.cmpf .olt a (FloatOps.ofBits .f32 8388608#32)) (FloatOps.ofBits .f32 1065353216#32) p

/-- The reference's inverse scale. -/
def refInv (s : F .f32) : F .f32 := FloatOps.divf (FloatOps.ofBits .f32 1065353216#32) s

/-- The reference's scale of a row of maximum `M`, over the extended reals. -/
def ref (M : Ideal .f32) : Ideal .f32 :=
  refScale (over M) ((Finset.univ : Finset (Fin 252)).fold min (Ideal.ofBits .f32 2139095040#32) (cand (over M)))

/-- A row times a column, over the extended reals. -/
def dot (a b : Fin 7168 → EReal) : EReal := ∑ k, a k * b k

/-! ## Over the extended reals -/

/-- A power of two. -/
def pow (n : ℤ) : EReal := (((2 : ℝ) ^ n : ℝ) : EReal)

theorem pow_lt {a b : ℤ} (h : a < b) : pow a < pow b := by
  unfold pow; rw [EReal.coe_lt_coe_iff]; exact zpow_lt_zpow_right₀ (by norm_num) h
theorem pow_le {a b : ℤ} (h : a ≤ b) : pow a ≤ pow b := by
  unfold pow; rw [EReal.coe_le_coe_iff]; exact zpow_le_zpow_right₀ (by norm_num) h

/-- The parts of a word that is an exponent field alone. -/
theorem parts : ∀ e : Fin 256, ((BitVec.ofNat 32 (e.val * 8388608)).extractLsb' 31 1 == 1#1) = false
    ∧ ((BitVec.ofNat 32 (e.val * 8388608)).extractLsb' 23 8).toNat = e.val ∧ ((BitVec.ofNat 32 (e.val * 8388608)).extractLsb' 0 23).toNat = 0 := by
  decide +kernel

/-- An exponent field alone denotes a power of two. -/
theorem ofBits_field (e : ℕ) (h1 : 1 ≤ e) (h2 : e ≤ 254) : Ideal.ofBits .f32 (BitVec.ofNat 32 (e * 8388608)) = pow ((e : ℤ) - 127) := by
  obtain ⟨p1, p2, p3⟩ := parts ⟨e, by omega⟩
  simp only at p1 p2 p3
  show Ideal.ieee 8 23 (BitVec.ofNat 32 (e * 8388608)) = _
  unfold Ideal.ieee
  simp only [show (8 + 23 : ℕ) = 31 from rfl]
  rw [p1, p2, p3, if_neg (by norm_num; omega), if_neg (by omega)]
  unfold pow
  congr 1
  have : ((e : ℤ) - 127) = ((e : ℤ) - (2 ^ (8 - 1) - 1) - (23 : ℕ)) + 23 := by norm_num
  rw [this, zpow_add₀ (by norm_num)]
  norm_num
  ring

/-- Each field as a number. -/
theorem field_eq : ∀ x : Fin 256, field x = BitVec.ofNat 32 (min x.val 252 * 8388608) := by decide +kernel

/-- The fields are small nonnegative words. -/
theorem toInt_field (e : ℕ) (h : e ≤ 252) : (BitVec.ofNat 32 (e * 8388608)).toInt = (e : ℤ) * 8388608 := by
  rw [BitVec.toInt_ofNat', Int.bmod_def]; norm_num; omega

/-- The signed maximum is the maximum of the numbers. -/
theorem toInt_maxsi (x y : BitVec 32) : (IntOp.maxsi x y).toInt = max x.toInt y.toInt := by
  unfold IntOp.maxsi
  by_cases h : y.slt x
  · rw [if_pos h]; have := BitVec.slt_iff_toInt_lt.mp h; omega
  · rw [if_neg h]; have : ¬ y.toInt < x.toInt := fun e => h (BitVec.slt_iff_toInt_lt.mpr e); omega

theorem select_ofBool {α : Type} (p : Prop) [Decidable p] (a b : α) : Scalar.select (BitVec.ofBool (decide p)) a b = if p then a else b := by
  by_cases h : p <;> simp [Scalar.select, h]

/-- The exponent number of a value: the largest `e ≤ 252` with `2^(e-127)` not above it, 0 if none. -/
def E (a : EReal) : ℕ := Nat.findGreatest (fun e => pow ((e : ℤ) - 127) ≤ a) 252

theorem E_le (a : EReal) : E a ≤ 252 := Nat.findGreatest_le _
theorem E_spec (a : EReal) (h : 1 ≤ E a) : pow ((E a : ℤ) - 127) ≤ a :=
  Nat.findGreatest_of_ne_zero (P := fun e => pow ((e : ℤ) - 127) ≤ a) (n := 252) (m := E a) rfl (by omega)
theorem E_max (a : EReal) (e : ℕ) (h : e ≤ 252) (he : pow ((e : ℤ) - 127) ≤ a) : e ≤ E a := Nat.le_findGreatest h he

/-- The kernel's field is the exponent number's. -/
theorem expo_eq (M : Ideal .f32) : expo M = BitVec.ofNat 32 (E (over M) * 8388608) := by
  apply BitVec.eq_of_toInt_eq
  rw [toInt_field _ (E_le _)]
  have hf : ∀ x : Fin 256, (Scalar.select (FloatOps.cmpf .oge (over M) (FloatOps.ofBits .f32 (field x))) (field x) 0#32).toInt
      = if Ideal.ofBits .f32 (field x) ≤ over M then ((min x.val 252 : ℕ) : ℤ) * 8388608 else 0 := fun x => by
    show (Scalar.select (BitVec.ofBool (decide (Ideal.ofBits .f32 (field x) ≤ over M))) (field x) 0#32).toInt = _
    rw [select_ofBool]
    by_cases h : Ideal.ofBits .f32 (field x) ≤ over M
    · rw [if_pos h, if_pos h, field_eq, toInt_field _ (by omega)]
    · rw [if_neg h, if_neg h]; rfl
  have e : (expo M).toInt = (Finset.univ : Finset (Fin 256)).fold max (-2147483648 : ℤ) fun x =>
      if Ideal.ofBits .f32 (field x) ≤ over M then ((min x.val 252 : ℕ) : ℤ) * 8388608 else 0 := by
    unfold expo
    rw [← Finset.fold_hom (op := IntOp.maxsi) (op' := max) (m := BitVec.toInt) toInt_maxsi]
    simp only [hf]
    rfl
  rw [e]
  apply le_antisymm
  · rw [Finset.fold_max_le]
    refine ⟨by omega, fun x _ => ?_⟩
    split_ifs with h
    · by_cases h0 : min x.val 252 = 0
      · rw [h0]; omega
      · rw [field_eq, ofBits_field _ (by omega) (by omega)] at h
        have := E_max (over M) (min x.val 252) (by omega) h
        have h2 : ((min x.val 252 : ℕ) : ℤ) ≤ (E (over M) : ℤ) := by exact_mod_cast this
        omega
    · omega
  · rw [Finset.le_fold_max]
    right
    by_cases h0 : E (over M) = 0
    · refine ⟨0, Finset.mem_univ _, ?_⟩
      rw [h0]; split_ifs <;> simp
    · have hE := E_le (over M)
      refine ⟨⟨E (over M), by omega⟩, Finset.mem_univ _, ?_⟩
      have hm : min (E (over M)) 252 = E (over M) := by omega
      rw [if_pos]
      · simp only [hm]; exact le_rfl
      · rw [field_eq]; simp only [hm]
        rw [ofBits_field _ (by omega) (by omega)]
        exact E_spec _ (by omega)

/-- The exponent number the scale is built from. -/
def E' (a : EReal) : ℕ := if E a = 0 then 126 else E a

theorem E'_pos (a : EReal) : 1 ≤ E' a := by unfold E'; split_ifs <;> omega
theorem E'_le (a : EReal) : E' a ≤ 252 := by have := E_le a; unfold E'; split_ifs <;> omega

theorem bits_eq (M : Ideal .f32) : bits M = BitVec.ofNat 32 (E' (over M) * 8388608) := by
  unfold bits E'
  rw [expo_eq]
  have hE := E_le (over M)
  by_cases h : E (over M) = 0
  · rw [if_pos h, h]; rfl
  · rw [if_neg h]
    have hb : IntOp.cmpi .eq (BitVec.ofNat 32 (E (over M) * 8388608)) 0#32 = 0#1 := by
      show BitVec.ofBool (BitVec.ofNat 32 (E (over M) * 8388608) == 0#32) = 0#1
      rw [beq_eq_false_iff_ne.mpr]; · rfl
      intro e
      have := congrArg BitVec.toInt e
      rw [toInt_field _ hE] at this
      have h0 : (0#32).toInt = 0 := rfl
      rw [h0] at this; omega
    rw [hb]; rfl

/-- The kernel's scale. -/
theorem scale_eq (M : Ideal .f32) : scale M = pow ((E' (over M) : ℤ) - 126) := by
  have h1 := E'_pos (over M)
  have h2 := E'_le (over M)
  have e : IntOp.addi (bits M) 8388608#32 = BitVec.ofNat 32 ((E' (over M) + 1) * 8388608) := by
    rw [bits_eq]
    generalize E' (over M) = n
    rw [Nat.add_mul, BitVec.ofNat_add, Nat.one_mul]
    rfl
  unfold scale
  rw [e]
  refine (ofBits_field _ (by omega) (by omega)).trans ?_
  congr 1; push_cast; ring

/-- The kernel's inverse scale. -/
theorem inv_eq (M : Ideal .f32) : inv M = pow (126 - (E' (over M) : ℤ)) := by
  have h1 := E'_pos (over M)
  have h2 := E'_le (over M)
  have e : IntOp.subi 2122317824#32 (bits M) = BitVec.ofNat 32 ((253 - E' (over M)) * 8388608) := by
    rw [bits_eq]
    generalize E' (over M) = n at h1 h2
    have h3 : n * 8388608 < 2 ^ 32 := by omega
    have h4 := BitVec.ofNat_sub_ofNat_of_le (w := 32) (253 * 8388608) (n * 8388608) h3 (by omega)
    rw [Nat.sub_mul, ← h4]
    rfl
  unfold inv
  rw [e]
  refine (ofBits_field _ (by omega) (by omega)).trans ?_
  congr 1; omega

theorem ofBits_125 : Ideal.ofBits .f32 1123680256#32 = ((125 : ℝ) : EReal) := by
  simp [Ideal.ofBits, Ideal.ieee, -EReal.coe_mul]; norm_num

/-- The reference's powers. -/
theorem power_eq (k : Fin 252) : power (F := Ideal) k = pow ((k.val : ℤ) - 125) := by
  have hk : (BitVec.ofNat 32 k.val).toInt = (k.val : ℤ) := by
    rw [BitVec.toInt_ofNat', Int.bmod_def]; norm_num; omega
  unfold power
  show Ideal.exp2 ((((BitVec.ofNat 32 k.val).toInt : ℝ) : EReal) - Ideal.ofBits .f32 1123680256#32) = _
  rw [hk, ofBits_125, ← EReal.coe_sub, Ideal.exp2_coe]
  unfold pow
  congr 1
  show (2 : ℝ) ^ ((((k.val : ℤ) : ℝ)) - 125) = _
  rw [← Real.rpow_intCast]
  congr 1; push_cast; ring

theorem top_eq : Ideal.ofBits .f32 2139095040#32 = ⊤ := by simp [Ideal.ofBits, Ideal.ieee]
theorem big_eq : Ideal.ofBits .f32 2122317824#32 = pow 126 := ofBits_field 253 (by omega) (by omega)
theorem tiny_eq : Ideal.ofBits .f32 8388608#32 = pow (-126) := ofBits_field 1 (by omega) (by omega)
theorem one_eq : Ideal.ofBits .f32 1065353216#32 = pow 0 := ofBits_field 127 (by omega) (by omega)

theorem cand_eq (a : Ideal .f32) (k : Fin 252) : cand a k = if a < pow ((k.val : ℤ) - 125) then pow ((k.val : ℤ) - 125) else pow 126 := by
  unfold cand
  rw [power_eq]
  show Scalar.select (BitVec.ofBool (decide (a < pow ((k.val : ℤ) - 125)))) _ (Ideal.ofBits .f32 2122317824#32) = _
  rw [select_ofBool, big_eq]

/-- The reference's scale is the kernel's. -/
theorem ref_eq (M : Ideal .f32) : ref M = scale M := by
  rw [scale_eq]
  unfold ref refScale
  show Scalar.select (BitVec.ofBool (decide (over M < Ideal.ofBits .f32 8388608#32))) (Ideal.ofBits .f32 1065353216#32) _ = _
  rw [select_ofBool, tiny_eq, one_eq, top_eq]
  generalize over M = a
  by_cases h : a < pow (-126)
  · rw [if_pos h]
    have hE : E a = 0 := by
      by_contra h0
      have := E_spec a (by omega)
      have h1 : pow (-126) ≤ pow ((E a : ℤ) - 127) := pow_le (by omega)
      exact absurd h (not_lt.mpr (h1.trans this))
    unfold E'; rw [if_pos hE]; norm_num
  · rw [if_neg h]
    have h1 : 1 ≤ E a := E_max a 1 (by omega) (not_lt.mp h)
    have h2 := E_le a
    have hs := E_spec a h1
    have e : E' a = E a := if_neg (by omega)
    rw [e]
    apply le_antisymm
    · rw [Finset.fold_min_le]
      right
      refine ⟨⟨E a - 1, by omega⟩, Finset.mem_univ _, ?_⟩
      rw [cand_eq]
      have e1 : (((⟨E a - 1, by omega⟩ : Fin 252).val : ℤ)) - 125 = (E a : ℤ) - 126 := by simp only; omega
      rw [e1]
      split_ifs with hc
      · exact le_rfl
      · have h3 : ¬ (E a < 252) := fun h4 => by
          have := E_max a (E a + 1) (by omega) (by
            have e2 : ((E a + 1 : ℕ) : ℤ) - 127 = (E a : ℤ) - 126 := by push_cast; ring
            rw [e2]; exact not_lt.mp hc)
          omega
        exact pow_le (by omega)
    · rw [Finset.le_fold_min]
      refine ⟨le_top, fun k _ => ?_⟩
      rw [cand_eq]
      split_ifs with hc
      · refine pow_le ?_
        by_contra h3
        have h4 : pow ((k.val : ℤ) - 125) ≤ pow ((E a : ℤ) - 127) := pow_le (by omega)
        exact absurd hc (not_lt.mpr (h4.trans hs))
      · exact pow_le (by omega)

/-- The reference's inverse scale is the kernel's. -/
theorem refInv_eq (M : Ideal .f32) : refInv (ref M) = inv M := by
  rw [ref_eq, scale_eq, inv_eq]
  unfold refInv
  show Ideal.div (Ideal.ofBits .f32 1065353216#32) _ = _
  rw [one_eq]
  unfold Ideal.div pow
  rw [if_neg (by exact_mod_cast (zpow_pos (by norm_num : (0:ℝ) < 2) _).ne'), ← EReal.coe_inv, ← EReal.coe_mul]
  congr 1
  rw [← zpow_neg, zpow_zero, one_mul]
  congr 1; ring

end Cert.Quant

end
-- ==== Proof.Spec.lean ====
module

public import proofs.«01_k».proof.Proof.Quant
public import Idealize.ShloMosaic.Lib.Pointwise

@[expose] public section

set_option maxRecDepth 8192

noncomputable section

/-! # The quantiser of one row, over the scalar operations

The kernel finds a row's power-of-two scale among the 252 exponent FIELDS of a 32-bit float (the largest field whose power of
two does not exceed `amax / 448`) and builds the scale and its inverse from that field; the reference takes the least power of
two above `amax / 448` and divides. Over the extended reals the two agree for every row maximum. -/

namespace Cert.Quant

open Idealize.ShloMosaic Idealize.ShloMosaic.TcCoe

variable {F : FTy → Type} [FloatOps F]

/-! # What both programs compute, over the extended reals -/

/-- Lane `e`'s rotary angle at position `p`. -/
def angle (p : BitVec 32) (e : Fin 64) : F .f32 :=
  FloatOps.mulf (FloatOps.sitofp .f32 p) (FloatOps.hostPowf (FloatOps.ofBits .f32 1176256512#32) (FloatOps.hostDivf (FloatOps.hostNegf
    (FloatOps.addf (FloatOps.ofBits .f32 0#32) (FloatOps.mulf (FloatOps.ofBits .f32 1073741824#32) (FloatOps.sitofp .f32 (BitVec.ofNat 32 e.val)))))
    (FloatOps.ofBits .f32 1124073472#32)))
/-- Its cosine and its sine. -/
def cosOf (p : BitVec 32) (e : Fin 64) : F .f32 := FloatOps.hostUnary .cos (angle p e)
def sinOf (p : BitVec 32) (e : Fin 64) : F .f32 := FloatOps.hostUnary .sin (angle p e)

/-- The arrays' shapes. -/
abbrev SX : Shape := ⟨2, ![3072, 7168]⟩
abbrev SXs : Shape := ⟨2, ![3072, 128]⟩
abbrev SW : Shape := ⟨2, ![7168, 49152]⟩
abbrev SWs : Shape := ⟨1, ![49152]⟩
abbrev SP : Shape := ⟨2, ![2, 1536]⟩
abbrev SQ : Shape := ⟨2, ![3072, 16384]⟩

/-- Column `e` of head `n`. -/
abbrev col (n : Fin 384) (e : Fin 128) : Fin 49152 := ⟨128 * n.val + e.val, by omega⟩

/-- The dequantised projection of token `R`: head `n`, lane `e`. -/
def proj (X : SX.Idx → EReal) (Xs : SXs.Idx → EReal) (W : SW.Idx → EReal) (Ws : SWs.Idx → EReal) (R : Fin 3072) (n : Fin 384) (e : Fin 128) : EReal :=
  dot (fun k => X (ix2 R k)) (fun k => W (ix2 k (col n e))) * Xs (ix2 R e) * Ws (ix1 (col n e))

/-- A head turned by the angles of position `p`: lane `e` with lane `e + 64`. -/
def rot (y : Fin 128 → EReal) (p : BitVec 32) (e : Fin 128) : EReal :=
  if h : e.val < 64 then y e * cosOf (F := Ideal) p ⟨e.val, h⟩ - y ⟨64 + e.val, by omega⟩ * sinOf (F := Ideal) p ⟨e.val, h⟩
  else y e * cosOf (F := Ideal) p ⟨e.val - 64, by omega⟩ + y ⟨e.val - 64, by omega⟩ * sinOf (F := Ideal) p ⟨e.val - 64, by omega⟩

/-- A head's maximum magnitude. -/
def top (y : Fin 128 → EReal) : Ideal .f32 := (Finset.univ : Finset (Fin 128)).fold max (Ideal.ofBits .f32 4286578688#32) fun e => FloatOps.absf (F := Ideal) (φ := .f32) (y e)

/-- The position of token `R`. -/
abbrev pos (P : SP.Idx → BitVec 32) (R : Fin 3072) : BitVec 32 := P (ix2 ⟨R.val / 1536, by omega⟩ ⟨R.val % 1536, by omega⟩)

/-- The rotated heads from head `n0` on. -/
def turned (X : SX.Idx → EReal) (Xs : SXs.Idx → EReal) (W : SW.Idx → EReal) (Ws : SWs.Idx → EReal) (P : SP.Idx → BitVec 32) (n0 : ℕ) (h0 : n0 ≤ 256) (R : Fin 3072) (n : Fin 128) : Fin 128 → EReal :=
  rot (proj X Xs W Ws R ⟨n0 + n.val, by omega⟩) (pos P R)
/-- The plain heads, the last 128. -/
def plain (X : SX.Idx → EReal) (Xs : SXs.Idx → EReal) (W : SW.Idx → EReal) (Ws : SWs.Idx → EReal) (R : Fin 3072) (n : Fin 128) : Fin 128 → EReal :=
  proj X Xs W Ws R ⟨256 + n.val, by omega⟩

/-- The codes of an array of heads. -/
def outCodes (ys : Fin 3072 → Fin 128 → Fin 128 → EReal) : SQ.Idx → Ideal .fp8e4m3 := fun i =>
  code (F := Ideal) (ys (i 0) ⟨(i 1).val / 128, by have h : (i 1).val < 16384 := (i 1).isLt; omega⟩ ⟨(i 1).val % 128, by omega⟩) (inv (top (ys (i 0) ⟨(i 1).val / 128, by have h : (i 1).val < 16384 := (i 1).isLt; omega⟩)))
/-- Their scales. -/
def outScales (ys : Fin 3072 → Fin 128 → Fin 128 → EReal) : SXs.Idx → Ideal .f32 := fun i => scale (top (ys (i 0) (i 1)))

end Cert.Quant

end
-- ==== Proof.NormSpec.lean ====
module

public import proofs.«01_k».proof.Proof.Spec

@[expose] public section

set_option maxRecDepth 8192

noncomputable section

/-! # The normalised and quantised rows, over the extended reals -/

namespace Cert.Quant

open Idealize.ShloMosaic Idealize.ShloMosaic.TcCoe

/-- The shapes of the tokens and of the norm's weights. -/
abbrev SN : Shape := ⟨3, ![2, 1536, 7168]⟩
abbrev SG : Shape := ⟨1, ![7168]⟩

/-- The reciprocal root of a row's mean square, with the epsilon. -/
def rms (x : Fin 7168 → EReal) : Ideal .f32 :=
  FloatOps.rsqrt (F := Ideal) (φ := .f32) (dot x x * Ideal.ofBits .f32 957499685#32 + Ideal.ofBits .f32 897988541#32)

/-- The normalised row. -/
def nrm (x g : Fin 7168 → EReal) (k : Fin 7168) : Ideal .f32 := x k * rms x * g k

/-- A row's maximum magnitude. -/
def topN (y : Fin 7168 → EReal) : Ideal .f32 :=
  (Finset.univ : Finset (Fin 7168)).fold max (Ideal.ofBits .f32 4286578688#32) fun k => FloatOps.absf (F := Ideal) (φ := .f32) (y k)

/-- Row `R` of the tokens. -/
abbrev tok (X : SN.Idx → EReal) (R : Fin 3072) (k : Fin 7168) : EReal := X (ix3 ⟨R.val / 1536, by omega⟩ ⟨R.val % 1536, by omega⟩ k)

/-- Row `R`, normalised. -/
def normed (X : SN.Idx → EReal) (G : SG.Idx → EReal) (R : Fin 3072) : Fin 7168 → EReal := nrm (tok X R) fun k => G (ix1 k)

/-- The codes of the normalised rows. -/
def normCodes (X : SN.Idx → EReal) (G : SG.Idx → EReal) : SX.Idx → Ideal .fp8e4m3 := fun i =>
  code (F := Ideal) (normed X G (i 0) (i 1)) (inv (topN (normed X G (i 0))))
/-- Their scales, in every lane. -/
def normScales (X : SN.Idx → EReal) (G : SG.Idx → EReal) : SXs.Idx → Ideal .f32 := fun i => scale (topN (normed X G (i 0)))

end Cert.Quant

end
-- ==== Proof.NormBlk.lean ====
module

public import proofs.«01_k».proof.Proof.Gen.NormIdeal.Frame
public import proofs.«01_k».proof.Proof.NormSpec
public import Idealize.ShloMosaic.Lib.Pointwise

@[expose] public section

set_option maxRecDepth 16384

noncomputable section

namespace Cert.NormIdeal.Hand

open Cert.NormIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # One block of rows: what the body computes from its tiles

The body reads the block's columns in 56 tiles of 128 lanes. It adds the tiles' squares in 7 chunks of 8, sums each chunk over its lanes,
takes the reciprocal root, runs the maximum magnitude over the tiles, and writes the tiles' codes. -/

/-- Tile `t`'s columns in the tokens, in the weights. -/
abbrev rT (t : ℕ) : Rect S128x7168 := Rect.unit (s := S128x7168) ![0, 128 * (t % 56)] S128x128.size (by
  intro a; match a with
  | ⟨0, _⟩ => exact Nat.le_refl 128
  | ⟨1, _⟩ => show 128 * (t % 56) + 128 ≤ 7168; omega)
abbrev rG (t : ℕ) : Rect S1x7168 := Rect.unit (s := S1x7168) ![0, 128 * (t % 56)] S1x128.size (by
  intro a; match a with
  | ⟨0, _⟩ => exact Nat.le_refl 1
  | ⟨1, _⟩ => show 128 * (t % 56) + 128 ≤ 7168; omega)

/-- A tile of the tokens, of the weights. -/
def xT (x0 : Vec F S128x7168 .bf16) (t : ℕ) : FVec F S128x128 .f32 := extf .f32 (shapeCast S128x128 (View.ld x0 (rT t)) shapeCasts_S128x128_S128x128) bitsLt_bf16_f32
def gT (x1 : Vec F S1x7168 .bf16) (t : ℕ) : FVec F S128x128 .f32 := broadcastTo S128x128 (extf .f32 (shapeCast S1x128 (View.ld x1 (rG t)) shapeCasts_S1x128_S1x128 : FVec F S1x128 .bf16) bitsLt_bf16_f32) broadcasts_S1x128_S128x128

/-- A tile's squares, and those of the tiles `o … o + n` added up. -/
def sqT (x0 : Vec F S128x7168 .bf16) (t : ℕ) : FVec F S128x128 .f32 := mulf (xT x0 t) (xT x0 t)
def sqs (x0 : Vec F S128x7168 .bf16) (o : ℕ) : ℕ → FVec F S128x128 .f32
  | 0 => sqT x0 o
  | n + 1 => addf (sqs x0 o n) (sqT x0 (o + (n + 1)))

/-- The sixteen groups of eight rows of `p`, added. -/
def groups (p : FVec F S128x128 .f32) : FVec F S8x128 .f32 :=
  addf (addf (addf (addf (addf (addf (addf (addf (addf (addf (addf (addf (addf (addf (addf (extractStridedSlice S8x128 ![0, 0] p slices_S128x128_o0_0_S8x128) (extractStridedSlice S8x128 ![8, 0] p slices_S128x128_o8_0_S8x128))
    (extractStridedSlice S8x128 ![16, 0] p slices_S128x128_o16_0_S8x128))
    (extractStridedSlice S8x128 ![24, 0] p slices_S128x128_o24_0_S8x128))
    (extractStridedSlice S8x128 ![32, 0] p slices_S128x128_o32_0_S8x128))
    (extractStridedSlice S8x128 ![40, 0] p slices_S128x128_o40_0_S8x128))
    (extractStridedSlice S8x128 ![48, 0] p slices_S128x128_o48_0_S8x128))
    (extractStridedSlice S8x128 ![56, 0] p slices_S128x128_o56_0_S8x128))
    (extractStridedSlice S8x128 ![64, 0] p slices_S128x128_o64_0_S8x128))
    (extractStridedSlice S8x128 ![72, 0] p slices_S128x128_o72_0_S8x128))
    (extractStridedSlice S8x128 ![80, 0] p slices_S128x128_o80_0_S8x128))
    (extractStridedSlice S8x128 ![88, 0] p slices_S128x128_o88_0_S8x128))
    (extractStridedSlice S8x128 ![96, 0] p slices_S128x128_o96_0_S8x128))
    (extractStridedSlice S8x128 ![104, 0] p slices_S128x128_o104_0_S8x128))
    (extractStridedSlice S8x128 ![112, 0] p slices_S128x128_o112_0_S8x128))
    (extractStridedSlice S8x128 ![120, 0] p slices_S128x128_o120_0_S8x128)
/-- A vector with its rotation by `k` rows added. -/
def fold1 (k : BitVec 32) (q : FVec F S8x128 .f32) : FVec F S8x128 .f32 := addf q (dynamicRotate 0 k none q rotates_S8x128_d0)
/-- The sums over the lanes of chunk `c`. -/
def laneSum (x0 : Vec F S128x7168 .bf16) (c : ℕ) : FVec F S8x128 .f32 :=
  fold1 1#32 (fold1 2#32 (fold1 4#32 (groups (transpose S128x128 [1, 0] (sqs x0 (8 * c) 7) transposes_S128x128_p1_0_S128x128))))
/-- The sums of the chunks `0 … n`. -/
def total (x0 : Vec F S128x7168 .bf16) : ℕ → FVec F S8x128 .f32
  | 0 => laneSum x0 0
  | n + 1 => addf (total x0 n) (laneSum x0 (n + 1))
/-- The reciprocal roots, each over its row. -/
def roots (x0 : Vec F S128x7168 .bf16) : FVec F S128x128 .f32 :=
  transpose S128x128 [1, 0] (broadcastTo S128x128 (shapeCast S1x128 (extractStridedSlice S1x128 ![0, 0]
    (rsqrt (addf (mulf (total x0 6) (broadcast S8x128 (Scalar.ofBits .f32 0x39124925#32))) (broadcast S8x128 (Scalar.ofBits .f32 0x358637BD#32)))) slices_S8x128_o0_0_S1x128)
    shapeCasts_S1x128_S1x128) broadcasts_S1x128_S128x128) transposes_S128x128_p1_0_S128x128

/-- A normalised tile. -/
def nT (r : FVec F S128x128 .f32) (x0 : Vec F S128x7168 .bf16) (x1 : Vec F S1x7168 .bf16) (t : ℕ) : FVec F S128x128 .f32 := mulf (mulf (xT x0 t) r) (gT x1 t)
/-- The maximum magnitude over the first `n` tiles. -/
def maxT (r : FVec F S128x128 .f32) (x0 : Vec F S128x7168 .bf16) (x1 : Vec F S1x7168 .bf16) : ℕ → FVec F S128x128 .f32
  | 0 => broadcast S128x128 (Scalar.ofBits .f32 0x00000000#32)
  | n + 1 => maximumf (maxT r x0 x1 n) (absf (nT r x0 x1 n))

/-- The exponent field of each row of `y`. -/
def bitsOf (y : FVec F S128x128 .f32) : IVec S128x1 32 :=
  have v1171 : FVec F S128 .f32 := multiReduction .maximumf [1] S128 y 0xFF800000#32 reduces_S128x128_S128 (.inl rfl) rfl
  have v1172 : FVec F S128x1 .f32 := shapeCast S128x1 v1171 shapeCasts_S128_S128x1
  have v1173 : IVec S128x256 32 := iota .tc S128x256 32 [1] iota_S128x256_d1_w32
  have v1174 : IVec S128x256 32 := broadcast S128x256 252#32
  have v1175 : IVec S128x256 32 := minsi v1173 v1174
  have v1176 : IVec S128x256 32 := broadcast S128x256 8388608#32
  have v1177 : IVec S128x256 32 := muli v1175 v1176
  have cst_301 : F .f32 := Scalar.ofBits .f32 0x3B124925#32
  have v1178 : FVec F S128x1 .f32 := broadcast S128x1 cst_301
  have v1179 : FVec F S128x1 .f32 := mulf v1172 v1178
  have v1180 : FVec F S128x256 .f32 := bitcastToFloat .f32 v1177
  have v1181 : FVec F S128x256 .f32 := broadcastTo S128x256 v1179 broadcasts_S128x1_S128x256
  have v1182 : IVec S128x256 1 := cmpf .oge v1181 v1180
  have v1183 : IVec S128x256 32 := broadcast S128x256 0#32
  have v1184 : IVec S128x256 32 := select v1182 v1177 v1183
  have v1185 : IVec S128 32 := multiReductionI .maxsi [1] S128 v1184 2147483648#32 reduces_S128x256_S128 rfl
  have v1186 : IVec S128x1 32 := shapeCast S128x1 v1185 shapeCasts_S128_S128x1
  have v1187 : IVec S128x1 32 := broadcast S128x1 0#32
  have v1188 : IVec S128x1 1 := cmpi .eq v1186 v1187
  have v1189 : IVec S128x1 32 := broadcast S128x1 1056964608#32
  select v1188 v1189 v1186

/-- A tile's codes, from the normalised tile and the inverse scales. -/
def codeT (s : FVec F S128x128 .f32) (y : FVec F S128x128 .f32) : FVec F S128x128 .fp8e4m3 :=
  truncf .fp8e4m3 (minimumf (broadcast S128x128 (Scalar.ofBits .f32 0x43E00000#32)) (maximumf (broadcast S128x128 (Scalar.ofBits .f32 0xC3E00000#32)) (mulf y s))) bitsLt_fp8e4m3_f32

/-- The pieces of the first `n` tiles' codes, the last first. -/
def pieces (s r : FVec F S128x128 .f32) (x0 : Vec F S128x7168 .bf16) (x1 : Vec F S1x7168 .bf16) : ℕ → List (View.Piece (Elt F) S128x7168 .fp8e4m3)
  | 0 => []
  | n + 1 => ⟨rT n, codeT s (nT r x0 x1 n)⟩ :: pieces s r x0 x1 n

/-- The body's reciprocal roots. -/
theorem pay149_eq (x0 : Vec F S128x7168 .bf16) (x1 : Vec F S1x7168 .bf16) : k0_pay149 x0 x1 = roots x0 := rfl

/-- The body's exponent fields. -/
theorem pay150_eq (x0 : Vec F S128x7168 .bf16) (x1 : Vec F S1x7168 .bf16) : k0_pay150 x0 x1 = bitsOf (maxT (k0_pay149 x0 x1) x0 x1 56) := rfl

/-- The block of codes. -/
theorem out2_eq (x0 : Vec F S128x7168 .bf16) (x1 : Vec F S1x7168 .bf16) : out0_2 x0 x1 = View.canon (pieces (k0_pay59 (k0_pay150 x0 x1)) (k0_pay149 x0 x1) x0 x1 56) := rfl

end Cert.NormIdeal.Hand

end
-- ==== Proof.NormRead.lean ====
module

public import proofs.«01_k».proof.Proof.NormBlk
public import Idealize.ShloMosaic.Lib.Pointwise

@[expose] public section

set_option maxRecDepth 16384

noncomputable section

namespace Cert.NormIdeal.Hand

open Cert.NormIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- A tile of the tokens at an index. -/
theorem xT_apply (x0 : Vec Ideal S128x7168 .bf16) (t : ℕ) (h : t < 56) (r l : Fin 128) : xT x0 t (ix2 r l) = x0 (ix2 r (⟨128 * t + l.val, by omega⟩ : Fin 7168)) := by
  unfold xT
  pointwise
  simp only [Nat.mod_eq_of_lt h]

/-- A tile of the weights at an index. -/
theorem gT_apply (x1 : Vec Ideal S1x7168 .bf16) (t : ℕ) (h : t < 56) (r l : Fin 128) : gT x1 t (ix2 r l) = x1 (ix2 (0 : Fin 1) (⟨128 * t + l.val, by omega⟩ : Fin 7168)) := by
  unfold gT
  pointwise
  simp only [Nat.mod_eq_of_lt h]

/-- The groups of rows, at an index. -/
theorem groups_apply (p : FVec Ideal S128x128 .f32) (s : Fin 8) (r : Fin 128) : groups p (ix2 s r)
    = ∑ v : Fin 16, (p (ix2 (⟨8 * v.val + s.val, by omega⟩ : Fin 128) r) : EReal) := by
  unfold groups
  pointwise
  rw [show (⟨s.val, by omega⟩ : Fin 128) = ⟨8 * 0 + s.val, by omega⟩ from Fin.ext (by simp only; omega)]
  simp only [Fin.sum_univ_castSucc, Finset.univ_eq_empty, Finset.sum_empty, zero_add]
  rfl

/-- Three rotations added leave in row 0 the sum of the eight rows. -/
theorem folds_apply (q : FVec Ideal S8x128 .f32) (r : Fin 128) : fold1 1#32 (fold1 2#32 (fold1 4#32 q)) (ix2 (0 : Fin 8) r) = ∑ s : Fin 8, (q (ix2 s r) : EReal) := by
  unfold fold1
  pointwise
  rw [Fin.sum_univ_eight]
  ac_rfl

/-- The exponent fields at an index. -/
theorem bits_apply (y : FVec F S128x128 .f32) (r : Fin 128) : bitsOf y (ix2 r (0 : Fin 1)) = Cert.Quant.bits (reduceFold reduces_S128x128_S128 FloatOps.maximumf (FloatOps.ofBits .f32 0xFF800000#32) y (ix1 r)) := by
  unfold bitsOf
  pointwise
  unfold Cert.Quant.bits Cert.Quant.expo Cert.Quant.over Cert.Quant.field
  rfl

/-- A code at an index. -/
theorem code_apply (b : IVec S128x1 32) (y : FVec F S128x128 .f32) (r l : Fin 128) : codeT (k0_pay59 b) y (ix2 r l) = Cert.Quant.code (y (ix2 r l)) (FloatOps.ofBits .f32 (IntOp.subi 2122317824#32 (b (ix2 r (0 : Fin 1))))) := by
  unfold codeT k0_pay59
  pointwise
  rfl

/-- A scale at an index. -/
theorem scale_apply (b : IVec S128x1 32) (r l : Fin 128) : k0_pay2 (F := F) b (ix2 r l) = FloatOps.ofBits .f32 (IntOp.addi (b (ix2 r (0 : Fin 1))) 8388608#32) := by
  unfold k0_pay2
  pointwise

/-- The lanes' maximum over the extended reals. -/
theorem lanes_ideal (y : FVec Ideal S128x128 .f32) (r : Fin 128) : reduceFold reduces_S128x128_S128 FloatOps.maximumf (FloatOps.ofBits .f32 0xFF800000#32) y (ix1 r)
    = (Finset.univ : Finset (Fin 128)).fold max (Ideal.ofBits .f32 4286578688#32) fun l => y (ix2 r l) := by
  change multiReduction .maximumf [1] S128 y 0xFF800000#32 reduces_S128x128_S128 (.inl rfl) rfl (ix1 r) = _
  pointwise

/-- The reciprocal roots at an index. -/
theorem roots_apply (x0 : Vec Ideal S128x7168 .bf16) (r l : Fin 128) : roots x0 (ix2 r l)
    = FloatOps.rsqrt (F := Ideal) (φ := .f32) (total x0 6 (ix2 (0 : Fin 8) r) * Ideal.ofBits .f32 957499685#32 + Ideal.ofBits .f32 897988541#32 : EReal) := by
  unfold roots
  pointwise

/-- The chunk's squares before the lane sum, turned. -/
theorem turned_apply (p : FVec Ideal S128x128 .f32) (r l : Fin 128) : (transpose S128x128 [1, 0] p transposes_S128x128_p1_0_S128x128) (ix2 l r) = p (ix2 r l) := by
  pointwise

/-- The squares of tiles `o … o + n` at an index. -/
theorem sqs_apply (x0 : Vec Ideal S128x7168 .bf16) (o n : ℕ) (r l : Fin 128) : (sqs x0 o n (ix2 r l) : EReal) = ∑ t : Fin (n + 1), (xT x0 (o + t.val) (ix2 r l) * xT x0 (o + t.val) (ix2 r l) : EReal) := by
  induction n with
  | zero => rw [Fin.sum_univ_one]; rfl
  | succ n ih => rw [Fin.sum_univ_castSucc]; exact congrArg (· + _) ih

/-- The sum over a chunk's columns. -/
theorem laneSum_apply (x0 : Vec Ideal S128x7168 .bf16) (c : ℕ) (r : Fin 128) : (laneSum x0 c (ix2 (0 : Fin 8) r) : EReal)
    = ∑ s : Fin 8, ∑ v : Fin 16, ∑ t : Fin 8, (xT x0 (8 * c + t.val) (ix2 r (⟨8 * v.val + s.val, by omega⟩ : Fin 128)) * xT x0 (8 * c + t.val) (ix2 r (⟨8 * v.val + s.val, by omega⟩ : Fin 128)) : EReal) := by
  unfold laneSum
  rw [folds_apply]
  refine Finset.sum_congr rfl fun s _ => ?_
  rw [groups_apply]
  refine Finset.sum_congr rfl fun v _ => ?_
  rw [turned_apply, sqs_apply]

/-- The sum of the chunks. -/
theorem total_apply (x0 : Vec Ideal S128x7168 .bf16) (n : ℕ) (r : Fin 128) : (total x0 n (ix2 (0 : Fin 8) r) : EReal) = ∑ c : Fin (n + 1), (laneSum x0 c.val (ix2 (0 : Fin 8) r) : EReal) := by
  induction n with
  | zero => rw [Fin.sum_univ_one]; rfl
  | succ n ih => rw [Fin.sum_univ_castSucc]; exact congrArg (· + _) ih

/-- A sum over 7168 columns, by chunk, residue, group and tile. -/
theorem columns (f : Fin 7168 → EReal) : ∑ c : Fin 7, ∑ s : Fin 8, ∑ v : Fin 16, ∑ t : Fin 8, f ⟨128 * (8 * c.val + t.val) + (8 * v.val + s.val), by omega⟩ = ∑ k, f k := by
  rw [← Fintype.sum_prod_type']
  simp only [← Fintype.sum_prod_type']
  refine Finset.sum_nbij' (fun p : (Fin 7 × Fin 8) × Fin 16 × Fin 8 => (⟨128 * (8 * p.1.1.val + p.2.2.val) + (8 * p.2.1.val + p.1.2.val), by omega⟩ : Fin 7168))
    (fun k => ((⟨k.val / 1024, by omega⟩, ⟨k.val % 8, by omega⟩), ⟨k.val / 8 % 16, by omega⟩, ⟨k.val / 128 % 8, by omega⟩)) ?_ ?_ ?_ ?_ ?_
  · exact fun _ _ => Finset.mem_univ _
  · exact fun _ _ => Finset.mem_univ _
  · rintro ⟨⟨a, b⟩, c, d⟩ -
    simp only [Prod.mk.injEq, Fin.ext_iff]
    omega
  · rintro k -
    simp only [Fin.ext_iff]
    omega
  · exact fun _ _ => rfl

/-- The total over the block's columns. -/
theorem total_dot (x0 : Vec Ideal S128x7168 .bf16) (r : Fin 128) : (total x0 6 (ix2 (0 : Fin 8) r) : EReal) = Cert.Quant.dot (fun k => x0 (ix2 r k)) fun k => x0 (ix2 r k) := by
  unfold Cert.Quant.dot
  rw [total_apply, ← columns]
  refine Finset.sum_congr rfl fun c _ => ?_
  rw [laneSum_apply]
  refine Finset.sum_congr rfl fun s _ => Finset.sum_congr rfl fun v _ => Finset.sum_congr rfl fun t _ => ?_
  rw [xT_apply x0 _ (by omega)]

/-- A normalised tile at an index. -/
theorem nT_apply (x0 : Vec Ideal S128x7168 .bf16) (x1 : Vec Ideal S1x7168 .bf16) (t : ℕ) (h : t < 56) (r l : Fin 128) :
    nT (roots x0) x0 x1 t (ix2 r l) = Cert.Quant.nrm (fun k => x0 (ix2 r k)) (fun k => x1 (ix2 (0 : Fin 1) k)) ⟨128 * t + l.val, by omega⟩ := by
  unfold Cert.Quant.nrm Cert.Quant.rms
  show (xT x0 t (ix2 r l) * roots x0 (ix2 r l) * gT x1 t (ix2 r l) : EReal) = _
  rw [xT_apply x0 t h, gT_apply x1 t h r l, roots_apply, total_dot]

/-- A magnitude is not negative. -/
theorem abs_nonneg (x : EReal) : (0 : EReal) ≤ FloatOps.absf (F := Ideal) (φ := .f32) x := by
  show (0 : EReal) ≤ max x (-x)
  rcases le_total 0 x with h | h
  · exact le_max_of_le_left h
  · exact le_max_of_le_right (EReal.neg_nonneg.mpr h)

/-- What bounds the running maximum. -/
theorem maxT_le (r : FVec Ideal S128x128 .f32) (x0 : Vec Ideal S128x7168 .bf16) (x1 : Vec Ideal S1x7168 .bf16) (n : ℕ) (i : S128x128.Idx) (b : EReal) :
    (maxT r x0 x1 n i : EReal) ≤ b ↔ (0 : EReal) ≤ b ∧ ∀ t < n, (FloatOps.absf (F := Ideal) (φ := .f32) (nT r x0 x1 t i) : EReal) ≤ b := by
  induction n with
  | zero =>
    have e : (maxT r x0 x1 0 i : EReal) = 0 := by show Ideal.ofBits .f32 0#32 = (0 : EReal); simp [Ideal.ofBits, Ideal.ieee]
    rw [e]; exact ⟨fun h => ⟨h, fun t ht => absurd ht (Nat.not_lt_zero t)⟩, fun h => h.1⟩
  | succ n ih =>
    show max (maxT r x0 x1 n i : EReal) (FloatOps.absf (F := Ideal) (φ := .f32) (nT r x0 x1 n i)) ≤ b ↔ _
    rw [max_le_iff, ih]
    refine ⟨fun h => ⟨h.1.1, fun t ht => ?_⟩, fun h => ⟨⟨h.1, fun t ht => h.2 t (by omega)⟩, h.2 n (by omega)⟩⟩
    rcases Nat.lt_succ_iff_lt_or_eq.mp ht with ht | rfl
    · exact h.1.2 t ht
    · exact h.2

/-- The maximum over the tiles and the lanes is the row's. -/
theorem top_eq (x0 : Vec Ideal S128x7168 .bf16) (x1 : Vec Ideal S1x7168 .bf16) (r : Fin 128) :
    reduceFold reduces_S128x128_S128 FloatOps.maximumf (FloatOps.ofBits .f32 0xFF800000#32) (maxT (roots x0) x0 x1 56) (ix1 r)
    = Cert.Quant.topN (Cert.Quant.nrm (fun k => x0 (ix2 r k)) fun k => x1 (ix2 (0 : Fin 1) k)) := by
  rw [lanes_ideal]
  unfold Cert.Quant.topN
  refine eq_of_forall_ge_iff fun b => ?_
  rw [Finset.fold_max_le, Finset.fold_max_le]
  refine and_congr Iff.rfl ⟨fun h k _ => ?_, fun h l _ => ?_⟩
  · have := ((maxT_le _ _ _ _ _ _).mp (h ⟨k.val % 128, by omega⟩ (Finset.mem_univ _))).2 (k.val / 128) (by omega)
    rw [nT_apply x0 x1 _ (by omega)] at this
    rwa [show (⟨128 * (k.val / 128) + (⟨k.val % 128, by omega⟩ : Fin 128).val, by simp only; omega⟩ : Fin 7168) = k from Fin.ext (by simp only; omega)] at this
  · refine (maxT_le _ _ _ _ _ _).mpr ⟨(abs_nonneg _).trans (h 0 (Finset.mem_univ _)), fun t ht => ?_⟩
    rw [nT_apply x0 x1 t ht]
    exact h _ (Finset.mem_univ _)

end Cert.NormIdeal.Hand

end
-- ==== Proof.NormVal.lean ====
module

public import proofs.«01_k».proof.Proof.NormRead
public import proofs.«01_k».proof.Proof.Gen.NormIdeal.Value
public import Idealize.ShloMosaic.Lib.Claim
public import Idealize.ShloMosaic.Lib.Pointwise
public import Idealize.ShloMosaic.Lib.Pipeline.ValueKit.Geometry
public import Idealize.ShloMosaic.Lib.Pipeline.ValueKit.Point

@[expose] public section

set_option maxRecDepth 16384

noncomputable section

namespace Cert.NormIdeal.Hand

open Cert.NormIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt Ideal) ℓ) (ρ : Dev nD → PrngReg)

/-! ## The block's results over the extended reals -/

/-- The pieces are those of the tiles. -/
theorem mem_pieces (s r : FVec F S128x128 .f32) (x0 : Vec F S128x7168 .bf16) (x1 : Vec F S1x7168 .bf16) (n : ℕ) (p : View.Piece (Elt F) S128x7168 .fp8e4m3) :
    p ∈ pieces s r x0 x1 n ↔ ∃ t < n, p = ⟨rT t, codeT s (nT r x0 x1 t)⟩ := by
  induction n with
  | zero => exact ⟨fun h => (List.not_mem_nil h).elim, fun ⟨t, h, _⟩ => absurd h (Nat.not_lt_zero t)⟩
  | succ n ih =>
    show p ∈ _ :: pieces s r x0 x1 n ↔ _
    rw [List.mem_cons, ih]
    refine ⟨fun h => ?_, fun ⟨t, ht, e⟩ => ?_⟩
    · rcases h with e | ⟨t, ht, e⟩
      · exact ⟨n, Nat.lt_succ_self n, e⟩
      · exact ⟨t, Nat.lt_succ_of_lt ht, e⟩
    · rcases Nat.lt_succ_iff_lt_or_eq.mp ht with ht | rfl
      · exact .inr ⟨t, ht, e⟩
      · exact .inl e

/-- The row of a block, normalised. -/
abbrev rowOf (x0 : Vec Ideal S128x7168 .bf16) (x1 : Vec Ideal S1x7168 .bf16) (r : Fin 128) : Fin 7168 → EReal :=
  Cert.Quant.nrm (fun k => x0 (ix2 r k)) fun k => x1 (ix2 (0 : Fin 1) k)

/-- The exponent fields are those of the rows' maxima. -/
theorem bits_ideal (x0 : Vec Ideal S128x7168 .bf16) (x1 : Vec Ideal S1x7168 .bf16) (r : Fin 128) :
    k0_pay150 x0 x1 (ix2 r (0 : Fin 1)) = Cert.Quant.bits (Cert.Quant.topN (rowOf x0 x1 r)) := by
  rw [pay150_eq, pay149_eq, bits_apply, top_eq]

/-- The block of codes at an index. -/
theorem out2_apply (x0 : Vec Ideal S128x7168 .bf16) (x1 : Vec Ideal S1x7168 .bf16) (r : Fin 128) (k : Fin 7168) :
    out0_2 x0 x1 (ix2 r k) = Cert.Quant.code (F := Ideal) (rowOf x0 x1 r k) (Cert.Quant.inv (Cert.Quant.topN (rowOf x0 x1 r))) := by
  rw [out2_eq, pay149_eq]
  refine View.canon_apply_of_pieces (Val := Elt Ideal) (e := .fp8e4m3) (fun i : S128x7168.Idx => Cert.Quant.code (F := Ideal) (rowOf x0 x1 (i 0) (i 1)) (Cert.Quant.inv (Cert.Quant.topN (rowOf x0 x1 (i 0))))) _ (fun p hp x => ?_) (ix2 r k) ?_
  · obtain ⟨t, ht, rfl⟩ := (mem_pieces _ _ _ _ _ _).mp hp
    obtain ⟨a, b, rfl⟩ : ∃ a b, x = ix2 a b := ⟨x 0, x 1, eq_ix2 x⟩
    show codeT _ _ (ix2 a b) = _
    rw [code_apply, bits_ideal, nT_apply x0 x1 t ht]
    have e : (rT t).emb (ix2 a b) = ix2 a (⟨128 * t + b.val, by omega⟩ : Fin 7168) := by
      funext i
      match i with
      | ⟨0, _⟩ => exact Fin.ext (by show 0 + 1 * a.val = a.val; omega)
      | ⟨1, _⟩ => exact Fin.ext (by show 128 * (t % 56) + 1 * b.val = 128 * t + b.val; omega)
    rw [e]
    rfl
  · refine ⟨_, (mem_pieces _ _ _ _ _ _).mpr ⟨k.val / 128, by omega, rfl⟩, (rT (k.val / 128)).mem_set.mpr fun i => ?_⟩
    match i with
    | ⟨0, _⟩ => exact ⟨r.val, r.isLt, by show r.val = 0 + 1 * r.val; omega⟩
    | ⟨1, _⟩ => exact ⟨k.val % 128, Nat.mod_lt _ (by decide), by show k.val = 128 * (k.val / 128 % 56) + 1 * (k.val % 128); omega⟩

/-- The block of scales at an index. -/
theorem out3_apply (x0 : Vec Ideal S128x7168 .bf16) (x1 : Vec Ideal S1x7168 .bf16) (r l : Fin 128) :
    out0_3 x0 x1 (ix2 r l) = Cert.Quant.scale (Cert.Quant.topN (rowOf x0 x1 r)) := by
  have e : ∀ p : Vec Ideal S128x128 .f32, View.canon [⟨r0_112, p⟩] (ix2 r l) = p (ix2 r l) := fun p => by frame_out
  unfold out0_3
  rw [e, scale_apply, bits_ideal]
  rfl

/-! ## The blocks of the arguments -/

/-- The arguments. -/
abbrev aX (c : Dev nD) : Cert.Quant.SN.Idx → EReal := m ((c : Thread nD τ).loc main_arg0)
abbrev aG (c : Dev nD) : Cert.Quant.SG.Idx → EReal := m ((c : Thread nD τ).loc main_arg1)

/-- The windows' block indices. -/
theorem idx_0 : ∀ t : Fin cfg0.N, (cfg0.win 0).index t 0 = t.val ∧ (cfg0.win 0).index t 1 = 0 :=
  (by decide +kernel : ∀ t : Fin grid0.N, win0_0.index t 0 = t.val ∧ win0_0.index t 1 = 0)
theorem idx_1 : ∀ t : Fin cfg0.N, (cfg0.win 1).index t 0 = 0 ∧ (cfg0.win 1).index t 1 = 0 :=
  (by decide +kernel : ∀ t : Fin grid0.N, win0_1.index t 0 = 0 ∧ win0_1.index t 1 = 0)
theorem idx_2 : ∀ t : Fin cfg0.N, (cfg0.win 2).index t 0 = t.val ∧ (cfg0.win 2).index t 1 = 0 :=
  (by decide +kernel : ∀ t : Fin grid0.N, win0_2.index t 0 = t.val ∧ win0_2.index t 1 = 0)
theorem idx_3 : ∀ t : Fin cfg0.N, (cfg0.win 3).index t 0 = t.val ∧ (cfg0.win 3).index t 1 = 0 :=
  (by decide +kernel : ∀ t : Fin grid0.N, win0_3.index t 0 = t.val ∧ win0_3.index t 1 = 0)

/-- The tokens, row by row. -/
theorem host_x (c : Dev nD) (R : Fin 3072) (k : Fin 7168) : V m c main_v0 (ix2 R k) = Cert.Quant.tok (aX m c) R k := by
  change StableHlo.after hostOps0 (fun b => m (c, b)) (Proc.tc.devRef main_v0) (ix2 R k) = _
  after_results
  pointwise
/-- The norm's weights, as a row. -/
theorem host_g (c : Dev nD) (k : Fin 7168) : V m c main_v1 (ix2 (0 : Fin 1) k) = aG m c (ix1 k) := by
  change StableHlo.after hostOps0 (fun b => m (c, b)) (Proc.tc.devRef main_v1) (ix2 (0 : Fin 1) k) = _
  after_results
  pointwise

/-- The tokens at grid point `t`. -/
theorem blk0 (c : Dev nD) (t : Fin cfg0.N) (r : Fin 128) (k : Fin 7168) (R : Fin 3072) (hR : R.val = t.val * 128 + r.val) :
    iblk m c 0 t (ix2 r k) = V m c main_v0 (ix2 R k) := by
  have h := idx_0 t
  blk_ext [iblk, h.1, h.2]

/-- The weights at grid point `t`. -/
theorem blk1 (c : Dev nD) (t : Fin cfg0.N) (k : Fin 7168) : iblk m c 1 t (ix2 (0 : Fin 1) k) = V m c main_v1 (ix2 (0 : Fin 1) k) := by
  have h := idx_1 t
  blk_ext [iblk, h.1, h.2]

/-- A block's row is the token's. -/
theorem row_eq (c : Dev nD) (t : Fin cfg0.N) (r : Fin 128) (R : Fin 3072) (hR : R.val = t.val * 128 + r.val) :
    rowOf (iblk m c 0 t) (iblk m c 1 t) r = Cert.Quant.normed (aX m c) (aG m c) R := by
  unfold rowOf Cert.Quant.normed
  rw [show (fun k => iblk m c 0 t (ix2 r k)) = Cert.Quant.tok (aX m c) R from funext fun k => (blk0 m c t r k R hR).trans (host_x m c R k),
    show (fun k => iblk m c 1 t (ix2 (0 : Fin 1) k)) = fun k => aG m c (ix1 k) from funext fun k => (blk1 m c t k).trans (host_g m c k)]

/-! ## The result arrays -/

/-- A block of codes read at an index, against the array of them. -/
theorem point2 (c : Dev nD) (t : Fin cfg0.N) (y : S128x7168.Idx) (i : S3072x7168.Idx) (h0 : (i 0).val = t.val * 128 + (y 0).val) (h1 : (i 1).val = (y 1).val) :
    out0_2 (iblk m c 0 t) (iblk m c 1 t) y = Cert.Quant.normCodes (aX m c) (aG m c) i := by
  obtain ⟨a, b, rfl⟩ : ∃ a b, y = ix2 a b := ⟨y 0, y 1, eq_ix2 y⟩
  obtain ⟨A, B, rfl⟩ : ∃ A B, i = ix2 A B := ⟨i 0, i 1, eq_ix2 i⟩
  obtain rfl : B = b := Fin.ext h1
  rw [out2_apply, row_eq m c t a A h0]
  rfl

/-- A block of scales likewise. -/
theorem point3 (c : Dev nD) (t : Fin cfg0.N) (y : S128x128.Idx) (i : S3072x128.Idx) (h0 : (i 0).val = t.val * 128 + (y 0).val) :
    out0_3 (iblk m c 0 t) (iblk m c 1 t) y = Cert.Quant.normScales (aX m c) (aG m c) i := by
  obtain ⟨a, b, rfl⟩ : ∃ a b, y = ix2 a b := ⟨y 0, y 1, eq_ix2 y⟩
  obtain ⟨A, B, rfl⟩ : ∃ A B, i = ix2 A B := ⟨i 0, i 1, eq_ix2 i⟩
  rw [out3_apply, row_eq m c t a A h0]
  rfl

/-- The array of codes. -/
theorem final2 (c : Dev nD) : (dats m 0 c).arrAt 2 cfg0.N = Cert.Quant.normCodes (aX m c) (aG m c) := by
  refine Pipeline.Dat.arrAt_eq_of_covers (dats m 0 c) 2 _ (by decide +kernel) fun t hf y => ?_
  have he0 := Pipeline.Window.rect_emb_val (cfg0.win 2) t y 0
  have he1 := Pipeline.Window.rect_emb_val (cfg0.win 2) t y 1
  rw [(idx_2 t).1] at he0
  rw [(idx_2 t).2] at he1
  blk_simp
  rw [after0_2]
  exact point2 m c t y _ he0 (he1.trans (by rw [Nat.zero_mul, Nat.zero_add]))

/-- The array of scales. -/
theorem final3 (c : Dev nD) : (dats m 0 c).arrAt 3 cfg0.N = Cert.Quant.normScales (aX m c) (aG m c) := by
  refine Pipeline.Dat.arrAt_eq_of_covers (dats m 0 c) 3 _ (by decide +kernel) fun t hf y => ?_
  have he0 := Pipeline.Window.rect_emb_val (cfg0.win 3) t y 0
  rw [(idx_3 t).1] at he0
  blk_simp
  rw [after0_3]
  exact point3 m c t y _ he0

/-- THE KERNEL'S VALUES over the extended reals: codes and scales of the normalised rows, and the arguments unchanged. -/
theorem values : θ_run defs (onTc (τ := τ) (main (F := Ideal))) ⟨m, fun _ => 0, ρ⟩ (fun r => ∀ c : Dev nD,
      r.2.mem ((c.tc : Thread nD τ).loc main_v2_0) = Cert.Quant.normCodes (aX m c) (aG m c)
      ∧ r.2.mem ((c.tc : Thread nD τ).loc main_v2_1) = Cert.Quant.normScales (aX m c) (aG m c)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (Cert.NormIdeal.Value.run_blocks m ρ)
  obtain ⟨r0, r1, u0, u1⟩ := h c
  exact ⟨r0.trans (final2 m c), r1.trans (final3 m c), u0, u1⟩

end Cert.NormIdeal.Hand

end
-- ==== Proof.NormRefVal.lean ====
module

public import proofs.«01_k».proof.Proof.Gen.NormRefIdeal.Frame
public import proofs.«01_k».proof.Proof.Gen.NormRefIdeal.Value
public import proofs.«01_k».proof.Proof.NormSpec
public import Idealize.ShloMosaic.Lib.Claim
public import Idealize.ShloMosaic.Lib.Pointwise
public import Idealize.ShloMosaic.Lib.Pipeline.ValueKit.Geometry
public import Idealize.ShloMosaic.Lib.Pipeline.ValueKit.Point

@[expose] public section

set_option maxRecDepth 16384

noncomputable section

namespace Cert.NormRefIdeal.Hand

open Cert.NormRefIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## Before the region: the two reshapes, and the blocks that are the whole arrays -/

/-- The tokens, row by row. -/
theorem host_x (c : Dev nD) (R : Fin 3072) (k : Fin 7168) :
    V m c main_v0 (ix2 R k) = m ((c : Thread nD τ).loc main_arg0) (ix3 (⟨R.val / 1536, by omega⟩ : Fin 2) (⟨R.val % 1536, by omega⟩ : Fin 1536) k) := by
  change StableHlo.after hostOps0 (fun b => m (c, b)) (Proc.tc.devRef main_v0) (ix2 R k) = _
  after_results
  pointwise
/-- The norm's weights, as a row. -/
theorem host_g (c : Dev nD) (k : Fin 7168) : V m c main_v1 (ix2 (0 : Fin 1) k) = m ((c : Thread nD τ).loc main_arg1) (ix1 k) := by
  change StableHlo.after hostOps0 (fun b => m (c, b)) (Proc.tc.devRef main_v1) (ix2 (0 : Fin 1) k) = _
  after_results
  pointwise

/-- Window 0's block. -/
theorem blk0 (c : Dev nD) (i : Fin 3072) (j : Fin 7168) : iblk m c 0 t0_0 (ix2 i j) = V m c main_v0 (ix2 i j) := by
  have h : ∀ t : Fin cfg0.N, (cfg0.win 0).index t 0 = 0 ∧ (cfg0.win 0).index t 1 = 0 := by decide +kernel
  blk_ext [iblk, (h t0_0).1, (h t0_0).2]

/-- Window 1's block. -/
theorem blk1 (c : Dev nD) (i : Fin 1) (j : Fin 7168) : iblk m c 1 t0_0 (ix2 i j) = V m c main_v1 (ix2 i j) := by
  have h : ∀ t : Fin cfg0.N, (cfg0.win 1).index t 0 = 0 ∧ (cfg0.win 1).index t 1 = 0 := by decide +kernel
  blk_ext [iblk, (h t0_0).1, (h t0_0).2]

/-- One piece over the whole array is its payload. -/
theorem whole2 (p : Vec F S3072x7168 .fp8e4m3) (y : S3072x7168.Idx) : View.canon [⟨r0_0, p⟩] y = p y := by
  frame_out
theorem whole3 (p : Vec F S3072x128 .f32) (y : S3072x128.Idx) : View.canon [⟨r0_2, p⟩] y = p y := by
  frame_out

/-- The region's codes. -/
theorem out_2 (c : Dev nD) : (dats m 0 c).arrAt 2 (cfgs 0).N = k0_pay1 (k0_pay5 (View.ld (iblk m c 0 t0_0) r0_0) (View.ld (iblk m c 1 t0_0) r0_1)) (Scalar.ofBits .f32 0x43E00000#32) (k0_pay6 (F := F)) := by
  refine (dats m 0 c).arrAt_eq_of_after_last 2 t0_0 (by decide +kernel) _ fun j => ?_
  blk_simp
  rw [after0_2]
  unfold out0_2
  rw [whole2]
  rfl

/-- The region's scales. -/
theorem out_3 (c : Dev nD) : (dats m 0 c).arrAt 3 (cfgs 0).N = k0_pay2 (k0_pay4 (View.ld (iblk m c 0 t0_0) r0_0) (View.ld (iblk m c 1 t0_0) r0_1)) := by
  refine (dats m 0 c).arrAt_eq_of_after_last 3 t0_0 (by decide +kernel) _ fun j => ?_
  blk_simp
  rw [after0_3]
  unfold out0_3
  rw [whole3]
  rfl

/-! ## The quantiser at an index -/

/-- A row's maximum magnitude. -/
def rowMax (y : FVec F S3072x7168 .f32) (r : Fin 3072) : F .f32 :=
  reduceFold reduces_S3072x7168_S3072 FloatOps.maximumf (FloatOps.ofBits .f32 0xFF800000#32) (absf y) (ix1 r)

/-- The candidates of each row. -/
def cands (y : FVec F S3072x7168 .f32) : FVec F S3072x252 .f32 := fun i => Cert.Quant.cand (Cert.Quant.over (rowMax y (i 0))) (i 1)

/-- The scale at an index. -/
theorem pay4_apply (x0 : Vec F S3072x7168 .bf16) (x1 : Vec F S1x7168 .bf16) (r : Fin 3072) : k0_pay4 x0 x1 (ix2 r (0 : Fin 1))
    = Cert.Quant.refScale (Cert.Quant.over (rowMax (k0_pay3 x0 x1) r)) (reduceFold reduces_S3072x252_S3072 FloatOps.minimumf (FloatOps.ofBits .f32 0x7F800000#32) (cands (k0_pay3 x0 x1)) (ix1 r)) := by
  unfold k0_pay4
  generalize k0_pay3 x0 x1 = y
  pointwise
  unfold Cert.Quant.refScale
  have e : ∀ z z' : FVec F S3072x252 .f32, z = z' → reduceFold reduces_S3072x252_S3072 FloatOps.minimumf (FloatOps.ofBits .f32 2139095040#32) z (ix1 r) = reduceFold reduces_S3072x252_S3072 FloatOps.minimumf (FloatOps.ofBits .f32 2139095040#32) z' (ix1 r) := fun z z' h => by rw [h]
  refine congrArg (Scalar.select _ _) (e _ _ ?_)
  funext i
  obtain ⟨a, b, rfl⟩ : ∃ a b, i = ix2 a b := ⟨i 0, i 1, eq_ix2 i⟩
  unfold cands
  pointwise
  rfl

/-- The codes at an index. -/
theorem codes_apply (x0 : Vec F S3072x7168 .bf16) (x1 : Vec F S1x7168 .bf16) (r : Fin 3072) (k : Fin 7168) :
    k0_pay1 (k0_pay5 x0 x1) (Scalar.ofBits .f32 0x43E00000#32) (k0_pay6 (F := F)) (ix2 r k) = Cert.Quant.code (k0_pay3 x0 x1 (ix2 r k)) (Cert.Quant.refInv (k0_pay4 x0 x1 (ix2 r (0 : Fin 1)))) := by
  unfold k0_pay1 k0_pay5 k0_pay6
  generalize k0_pay3 x0 x1 = y
  generalize k0_pay4 x0 x1 = s
  pointwise
  rfl

/-- The scales' lanes. -/
theorem scales_apply (s : FVec F S3072x1 .f32) (r : Fin 3072) (l : Fin 128) : k0_pay2 s (ix2 r l) = s (ix2 r (0 : Fin 1)) := by
  unfold k0_pay2
  pointwise

/-! ## Over the extended reals -/

/-- The normalised rows at an index. -/
theorem pay3_ideal (x0 : Vec Ideal S3072x7168 .bf16) (x1 : Vec Ideal S1x7168 .bf16) (r : Fin 3072) (k : Fin 7168) :
    k0_pay3 x0 x1 (ix2 r k) = Cert.Quant.nrm (fun j => x0 (ix2 r j)) (fun j => x1 (ix2 (0 : Fin 1) j)) k := by
  unfold k0_pay3 Cert.Quant.nrm Cert.Quant.rms Cert.Quant.dot
  pointwise

/-- A row's maximum. -/
theorem rowMax_ideal (y : FVec Ideal S3072x7168 .f32) (r : Fin 3072) : rowMax y r = Cert.Quant.topN fun k => y (ix2 r k) := by
  unfold rowMax Cert.Quant.topN
  change multiReduction .maximumf [1] S3072 (absf y) 0xFF800000#32 reduces_S3072x7168_S3072 (.inl rfl) rfl (ix1 r) = _
  pointwise

/-- A least candidate. -/
theorem least_ideal (z : FVec Ideal S3072x252 .f32) (r : Fin 3072) :
    reduceFold reduces_S3072x252_S3072 FloatOps.minimumf (FloatOps.ofBits .f32 0x7F800000#32) z (ix1 r)
    = (Finset.univ : Finset (Fin 252)).fold min (Ideal.ofBits .f32 2139095040#32) fun x => z (ix2 r x) := by
  change multiReduction .minimumf [1] S3072 z 0x7F800000#32 reduces_S3072x252_S3072 (.inl rfl) rfl (ix1 r) = _
  pointwise

/-- The scale is the scale of the row's maximum. -/
theorem scale_ideal (x0 : Vec Ideal S3072x7168 .bf16) (x1 : Vec Ideal S1x7168 .bf16) (r : Fin 3072) :
    k0_pay4 x0 x1 (ix2 r (0 : Fin 1)) = Cert.Quant.scale (Cert.Quant.topN (Cert.Quant.nrm (fun j => x0 (ix2 r j)) fun j => x1 (ix2 (0 : Fin 1) j))) := by
  rw [pay4_apply, least_ideal, ← show _ = _ from funext (pay3_ideal x0 x1 r), ← rowMax_ideal, ← Cert.Quant.ref_eq]
  rfl

variable (m : (ℓ : Loc nD τ sig) → Buf (Elt Ideal) ℓ) (ρ : Dev nD → PrngReg)

/-- The arguments. -/
abbrev aX (c : Dev nD) : Cert.Quant.SN.Idx → EReal := m ((c : Thread nD τ).loc main_arg0)
abbrev aG (c : Dev nD) : Cert.Quant.SG.Idx → EReal := m ((c : Thread nD τ).loc main_arg1)

/-- The tokens as the kernel reads them. -/
theorem ld_x (c : Dev nD) (R : Fin 3072) (k : Fin 7168) : (View.ld (iblk m c 0 t0_0) r0_0) (ix2 R k) = Cert.Quant.tok (aX m c) R k := by
  have h := (blk0 m c R k).trans (host_x m c R k); refine Eq.trans ?_ h; pointwise
/-- The weights as the kernel reads them. -/
theorem ld_g (c : Dev nD) (k : Fin 7168) : (View.ld (iblk m c 1 t0_0) r0_1) (ix2 (0 : Fin 1) k) = aG m c (ix1 k) := by
  have h := (blk1 m c 0 k).trans (host_g m c k); refine Eq.trans ?_ h; pointwise

/-- The normalised rows, in the arguments. -/
theorem nrm_ld (c : Dev nD) (R : Fin 3072) : Cert.Quant.nrm (fun j => (View.ld (iblk m c 0 t0_0) r0_0) (ix2 R j)) (fun j => (View.ld (iblk m c 1 t0_0) r0_1) (ix2 (0 : Fin 1) j)) = Cert.Quant.normed (aX m c) (aG m c) R := by
  unfold Cert.Quant.normed
  rw [show (fun j => (View.ld (iblk m c 0 t0_0) r0_0) (ix2 R j)) = Cert.Quant.tok (aX m c) R from funext (ld_x m c R),
    show (fun j => (View.ld (iblk m c 1 t0_0) r0_1) (ix2 (0 : Fin 1) j)) = fun k => aG m c (ix1 k) from funext (ld_g m c)]

/-- The codes. -/
theorem codes_out (c : Dev nD) : (k0_pay1 (k0_pay5 (View.ld (iblk m c 0 t0_0) r0_0) (View.ld (iblk m c 1 t0_0) r0_1)) (Scalar.ofBits .f32 0x43E00000#32) (k0_pay6 (F := Ideal)) : Vec Ideal S3072x7168 .fp8e4m3) = Cert.Quant.normCodes (aX m c) (aG m c) := by
  funext i
  obtain ⟨a, b, rfl⟩ : ∃ a b, i = ix2 a b := ⟨i 0, i 1, eq_ix2 i⟩
  rw [codes_apply, scale_ideal, pay3_ideal, nrm_ld, ← Cert.Quant.ref_eq, Cert.Quant.refInv_eq]
  rfl

/-- The scales. -/
theorem scales_out (c : Dev nD) : (k0_pay2 (k0_pay4 (View.ld (iblk m c 0 t0_0) r0_0) (View.ld (iblk m c 1 t0_0) r0_1)) : Vec Ideal S3072x128 .f32) = Cert.Quant.normScales (aX m c) (aG m c) := by
  funext i
  obtain ⟨a, b, rfl⟩ : ∃ a b, i = ix2 a b := ⟨i 0, i 1, eq_ix2 i⟩
  rw [scales_apply, scale_ideal, nrm_ld]
  rfl

/-- THE REFERENCE'S VALUES over the extended reals, and its arguments unchanged. -/
theorem values : θ_run defs (onTc (τ := τ) (main (F := Ideal))) ⟨m, fun _ => 0, ρ⟩ (fun r => ∀ c : Dev nD,
      r.2.mem ((c.tc : Thread nD τ).loc main_v2_0) = Cert.Quant.normCodes (aX m c) (aG m c)
      ∧ r.2.mem ((c.tc : Thread nD τ).loc main_v2_1) = Cert.Quant.normScales (aX m c) (aG m c)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (Cert.NormRefIdeal.Value.run_blocks m ρ)
  obtain ⟨r0, r1, u0, u1⟩ := h c
  exact ⟨(r0.trans (out_2 m c)).trans (codes_out m c), (r1.trans (out_3 m c)).trans (scales_out m c), u0, u1⟩

end Cert.NormRefIdeal.Hand

end
-- ==== Proof.ProjBase.lean ====
module

public import proofs.«01_k».proof.Proof.Gen.ProjIdeal.Frame
public import proofs.«01_k».proof.Proof.Gen.ProjIdeal.Skeleton

@[expose] public section

set_option maxRecDepth 16384

noncomputable section

namespace Cert.ProjIdeal.Hand

open Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the points whose coordinates have i1 ≤ 31 — decided over the grid. -/
theorem hcond0_0 : ∀ t : Fin cfg0.N, cond0_0 (grid0.coords t) ↔ t.val % 96 ≤ 31 :=
  (by decide +kernel : ∀ t : Fin grid0.N, cond0_0 (grid0.coords t) ↔ t.val % 96 ≤ 31)

/-- The condition of the body's `scf.if` 1 (`k0_h2`), from the grid coordinates (the skeleton's scalar
    chain substituted). -/
abbrev cond0_1 (i : grid0.Coords) : Prop := k0_cond2 i = 1#1
/-- It holds at the points whose coordinates have 32 ≤ i1 and i1 ≤ 63 — decided over the grid. -/
theorem hcond0_1 : ∀ t : Fin cfg0.N, cond0_1 (grid0.coords t) ↔ (32 ≤ t.val % 96 ∧ t.val % 96 ≤ 63) :=
  (by decide +kernel : ∀ t : Fin grid0.N, cond0_1 (grid0.coords t) ↔ (32 ≤ t.val % 96 ∧ t.val % 96 ≤ 63))

/-- The condition of the body's `scf.if` 2 (`k0_h3`), from the grid coordinates (the skeleton's scalar
    chain substituted). -/
abbrev cond0_2 (i : grid0.Coords) : Prop := k0_cond3 i = 1#1
/-- It holds at the points whose coordinates have 64 ≤ i1 — decided over the grid. -/
theorem hcond0_2 : ∀ t : Fin cfg0.N, cond0_2 (grid0.coords t) ↔ 64 ≤ t.val % 96 :=
  (by decide +kernel : ∀ t : Fin grid0.N, cond0_2 (grid0.coords t) ↔ 64 ≤ t.val % 96)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S512x7168 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S7168x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x512 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x512 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x512 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x128 .f32 := win0_11.stage (cfg0.slots t 11)
abbrev hs0_11 (t : Fin cfg0.N) : (ms0_11 t).IsWhole := hstage0_11 ((cfg0.slots t 11).cast nbuf0_11)

/-! ## The payloads, head by head -/

/-- The columns of head 0 of the tile in a block of weight scales. -/
abbrev rw0 : Rect S1x512 := Rect.unit (s := S1x512) ![0, 0] S1x128.size inb_S1x512_S1x128_0_0
/-- The columns of head 0 of the tile in a block of codes. -/
abbrev rc0 : Rect S512x512 := Rect.unit (s := S512x512) ![0, 0] S512x128.size inb_S512x512_S512x128_0_0
/-- The columns of head 1 of the tile in a block of weight scales. -/
abbrev rw1 : Rect S1x512 := Rect.unit (s := S1x512) ![0, 128] S1x128.size inb_S1x512_S1x128_0_128
/-- The columns of head 1 of the tile in a block of codes. -/
abbrev rc1 : Rect S512x512 := Rect.unit (s := S512x512) ![0, 128] S512x128.size inb_S512x512_S512x128_0_128
/-- The columns of head 2 of the tile in a block of weight scales. -/
abbrev rw2 : Rect S1x512 := Rect.unit (s := S1x512) ![0, 256] S1x128.size inb_S1x512_S1x128_0_256
/-- The columns of head 2 of the tile in a block of codes. -/
abbrev rc2 : Rect S512x512 := Rect.unit (s := S512x512) ![0, 256] S512x128.size inb_S512x512_S512x128_0_256
/-- The columns of head 3 of the tile in a block of weight scales. -/
abbrev rw3 : Rect S1x512 := Rect.unit (s := S1x512) ![0, 384] S1x128.size inb_S1x512_S1x128_0_384
/-- The columns of head 3 of the tile in a block of codes. -/
abbrev rc3 : Rect S512x512 := Rect.unit (s := S512x512) ![0, 384] S512x128.size inb_S512x512_S512x128_0_384
/-- A whole 512 by 128 buffer. -/
abbrev rs : Rect S512x128 := Rect.unit (s := S512x128) ![0, 0] S512x128.size inb_S512x128_S512x128_0_0
/-- A whole block of activation codes. -/
abbrev rx : Rect S512x7168 := Rect.unit (s := S512x7168) ![0, 0] S512x7168.size inb_S512x7168_S512x7168_0_0
/-- A whole block of weight codes. -/
abbrev rv : Rect S7168x512 := Rect.unit (s := S7168x512) ![0, 0] S7168x512.size inb_S7168x512_S7168x512_0_0

/-- The exponent field (in place) of each row's scale, from the row's values. -/
def bitsOf (y : FVec F S512x128 .f32) : IVec S512x1 32 :=
  have v33 : FVec F S512 .f32 := multiReduction .maximumf [1] S512 (absf y) 0xFF800000#32 reduces_S512x128_S512 (.inl rfl) rfl
  have v39 : IVec S512x256 32 := muli (minsi (iota .tc S512x256 32 [1] iota_S512x256_d1_w32) (broadcast S512x256 252#32)) (broadcast S512x256 8388608#32)
  have v41 : FVec F S512x1 .f32 := mulf (shapeCast S512x1 v33 shapeCasts_S512_S512x1) (broadcast S512x1 (Scalar.ofBits .f32 0x3B124925#32))
  have v44 : IVec S512x256 1 := cmpf .oge (broadcastTo S512x256 v41 broadcasts_S512x1_S512x256) (bitcastToFloat .f32 v39)
  have v46 : IVec S512x256 32 := select v44 v39 (broadcast S512x256 0#32)
  have v48 : IVec S512x1 32 := shapeCast S512x1 (multiReductionI .maxsi [1] S512 v46 2147483648#32 reduces_S512x256_S512 rfl) shapeCasts_S512_S512x1
  select (cmpi .eq v48 (broadcast S512x1 0#32)) (broadcast S512x1 1056964608#32) v48

/-- The codes of a head: each value times its row's inverse scale, clipped and rounded to fp8. -/
def codesOf (y : FVec F S512x128 .f32) : FVec F S512x128 .fp8e4m3 :=
  have v57 : FVec F S512x128 .f32 := mulf y (broadcastTo S512x128 (bitcastToFloat .f32 (subi (broadcast S512x1 2122317824#32) (bitsOf y))) broadcasts_S512x1_S512x128)
  truncf .fp8e4m3 (minimumf (broadcast S512x128 (Scalar.ofBits .f32 0x43E00000#32)) (maximumf (broadcast S512x128 (Scalar.ofBits .f32 0xC3E00000#32)) v57)) bitsLt_fp8e4m3_f32

/-- A head's scales put into lane `p` of a block of scales. -/
def putScale (p : BitVec 32) (y : FVec F S512x128 .f32) (z : FVec F S512x128 .f32) : FVec F S512x128 .f32 :=
  have v73 : FVec F S512x128 .f32 := broadcastTo S512x128 (shapeCast S512x1 (bitcastToFloat .f32 (addi (bitsOf y) (broadcast S512x1 8388608#32))) shapeCasts_S512x1_S512x1) broadcasts_S512x1_S512x128
  select (cmpi .eq (iota .tc S512x128 32 [1] iota_S512x128_d1_w32) (broadcast S512x128 p)) v73 z

/-- A head's columns of the product at column offset `o`, times the activation scales and the weight scales. -/
def scaled (o : ℕ) (hs : S512x512.Slices ![0, o] S512x128) (x0 : Vec F S512x7168 .fp8e4m3) (x1 : Vec F S512x128 .f32) (x2 : Vec F S7168x512 .fp8e4m3) (w : Vec F S1x128 .f32) : FVec F S512x128 .f32 :=
  mulf (mulf (extractStridedSlice S512x128 ![0, o] (k0_pay1 (View.ld x0 rx) (View.ld x2 rv)) hs) (View.ld x1 rs)) (broadcastTo S512x128 (shapeCast S1x128 w shapeCasts_S1x128_S1x128) broadcasts_S1x128_S512x128)

/-- The rotary embedding of a head: the values times the cosines plus the half-turned values times the sines. -/
def roped (y : FVec F S512x128 .f32) (x4 x5 : Vec F S512x128 .f32) : FVec F S512x128 .f32 :=
  addf (mulf y (shapeCast S512x128 (View.ld x4 rs) shapeCasts_S512x128_S512x128)) (mulf (dynamicRotate 1 64#32 none y rotates_S512x128_d1) (shapeCast S512x128 (View.ld x5 rs) shapeCasts_S512x128_S512x128))

/-- Head 0 of a tile of the value projection, before quantisation. -/
def headV0 (x0 : Vec F S512x7168 .fp8e4m3) (x1 : Vec F S512x128 .f32) (x2 : Vec F S7168x512 .fp8e4m3) (x3 : Vec F S1x512 .f32) : FVec F S512x128 .f32 :=
  scaled 0 slices_S512x512_o0_0_S512x128 x0 x1 x2 (View.ld x3 rw0)
/-- Head 0 of a tile of a rotated projection, before quantisation. -/
def headR0 (x0 : Vec F S512x7168 .fp8e4m3) (x1 : Vec F S512x128 .f32) (x2 : Vec F S7168x512 .fp8e4m3) (x3 : Vec F S1x512 .f32) (x4 x5 : Vec F S512x128 .f32) : FVec F S512x128 .f32 :=
  roped (headV0 x0 x1 x2 x3) x4 x5
/-- Head 1 of a tile of the value projection, before quantisation. -/
def headV1 (x0 : Vec F S512x7168 .fp8e4m3) (x1 : Vec F S512x128 .f32) (x2 : Vec F S7168x512 .fp8e4m3) (x3 : Vec F S1x512 .f32) : FVec F S512x128 .f32 :=
  scaled 128 slices_S512x512_o0_128_S512x128 x0 x1 x2 (View.ld x3 rw1)
/-- Head 1 of a tile of a rotated projection, before quantisation. -/
def headR1 (x0 : Vec F S512x7168 .fp8e4m3) (x1 : Vec F S512x128 .f32) (x2 : Vec F S7168x512 .fp8e4m3) (x3 : Vec F S1x512 .f32) (x4 x5 : Vec F S512x128 .f32) : FVec F S512x128 .f32 :=
  roped (headV1 x0 x1 x2 x3) x4 x5
/-- Head 2 of a tile of the value projection, before quantisation. -/
def headV2 (x0 : Vec F S512x7168 .fp8e4m3) (x1 : Vec F S512x128 .f32) (x2 : Vec F S7168x512 .fp8e4m3) (x3 : Vec F S1x512 .f32) : FVec F S512x128 .f32 :=
  scaled 256 slices_S512x512_o0_256_S512x128 x0 x1 x2 (View.ld x3 rw2)
/-- Head 2 of a tile of a rotated projection, before quantisation. -/
def headR2 (x0 : Vec F S512x7168 .fp8e4m3) (x1 : Vec F S512x128 .f32) (x2 : Vec F S7168x512 .fp8e4m3) (x3 : Vec F S1x512 .f32) (x4 x5 : Vec F S512x128 .f32) : FVec F S512x128 .f32 :=
  roped (headV2 x0 x1 x2 x3) x4 x5
/-- Head 3 of a tile of the value projection, before quantisation. -/
def headV3 (x0 : Vec F S512x7168 .fp8e4m3) (x1 : Vec F S512x128 .f32) (x2 : Vec F S7168x512 .fp8e4m3) (x3 : Vec F S1x512 .f32) : FVec F S512x128 .f32 :=
  scaled 384 slices_S512x512_o0_384_S512x128 x0 x1 x2 (View.ld x3 rw3)
/-- Head 3 of a tile of a rotated projection, before quantisation. -/
def headR3 (x0 : Vec F S512x7168 .fp8e4m3) (x1 : Vec F S512x128 .f32) (x2 : Vec F S7168x512 .fp8e4m3) (x3 : Vec F S1x512 .f32) (x4 x5 : Vec F S512x128 .f32) : FVec F S512x128 .f32 :=
  roped (headV3 x0 x1 x2 x3) x4 x5

/-- The block of codes four heads leave. -/
def codes4 (y0 y1 y2 y3 : FVec F S512x128 .f32) : Vec F S512x512 .fp8e4m3 :=
  View.canon [⟨rc3, codesOf y3⟩, ⟨rc2, codesOf y2⟩, ⟨rc1, codesOf y1⟩, ⟨rc0, codesOf y0⟩]

/-- The four column pieces tile the block. -/
theorem cover4 (p0 p1 p2 p3 : Vec F S512x128 .fp8e4m3) (y : S512x512.Idx) :
    ∃ pc ∈ ([⟨rc3, p3⟩, ⟨rc2, p2⟩, ⟨rc1, p1⟩, ⟨rc0, p0⟩] : List (View.Piece (Elt F) S512x512 .fp8e4m3)), y ∈ pc.1.set :=
  View.cover_of_tiled [⟨rc3, p3⟩, ⟨rc2, p2⟩, ⟨rc1, p1⟩, ⟨rc0, p0⟩] S512x128.size (by rfl) y

/-- The lane of head `h` of the tile at grid point `i`, the branch's first tile being `j0`. -/
def laneAt (i : grid0.Coords) (j0 h : BitVec 32) : BitVec 32 :=
  Scalar.addi (Scalar.muli (Scalar.subi (BitVec.ofNat 32 (i 1).val) j0) 4#32) h

/-- The block of scales four heads leave, from what was there. -/
def scales4 (i : grid0.Coords) (j0 : BitVec 32) (y0 y1 y2 y3 : FVec F S512x128 .f32) (z : Vec F S512x128 .f32) : Vec F S512x128 .f32 :=
  View.canon [⟨rs, putScale (laneAt i j0 3#32) y3 (putScale (laneAt i j0 2#32) y2 (putScale (laneAt i j0 1#32) y1 (putScale (laneAt i j0 0#32) y0
    (shapeCast S512x128 (View.ld z rs) shapeCasts_S512x128_S512x128))))⟩]

/-- The store of the scales covers its block. -/
theorem cover1 (p0 : Vec F S512x128 .f32) (y : S512x128.Idx) :
    ∃ pc ∈ ([⟨rs, p0⟩] : List (View.Piece (Elt F) S512x128 .f32)), y ∈ pc.1.set :=
  View.cover_of_tiled [⟨rs, p0⟩] S512x128.size (by rfl) y

end Cert.ProjIdeal.Hand

end
-- ==== Proof.ProjRunA.lean ====
module

public import proofs.«01_k».proof.Proof.ProjBase

@[expose] public section

set_option maxRecDepth 16384

noncomputable section

namespace Cert.ProjIdeal.Hand

open Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a grid point of the query branch: from the inputs at `x0 … x5`, the branch's codes buffer at anything and
    its scales buffer at `z`, it ends with the inputs as they were, the codes at `codes4` of the branch's heads, and the
    scales at `scales4` of them over `z`. -/
theorem runA (c : Dev nD) (i : grid0.Coords) (arg2 : Memref sig .tc .vmem S512x7168 .fp8e4m3) (harg2 : arg2.IsWhole) (arg3 : Memref sig .tc .vmem S512x128 .f32) (harg3 : arg3.IsWhole) (arg4 : Memref sig .tc .vmem S7168x512 .fp8e4m3) (harg4 : arg4.IsWhole) (arg5 : Memref sig .tc .vmem S1x512 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x512 .fp8e4m3) (harg8 : arg8.IsWhole) (arg9 : Memref sig .tc .vmem S512x128 .f32) (harg9 : arg9.IsWhole) (arg10 : Memref sig .tc .vmem S512x512 .fp8e4m3) (harg10 : arg10.IsWhole) (arg11 : Memref sig .tc .vmem S512x128 .f32) (harg11 : arg11.IsWhole) (arg12 : Memref sig .tc .vmem S512x512 .fp8e4m3) (harg12 : arg12.IsWhole) (arg13 : Memref sig .tc .vmem S512x128 .f32) (harg13 : arg13.IsWhole) (hc0 : cond0_0 i) (hc1 : ¬cond0_1 i) (hc2 : ¬cond0_2 i)
    (x0 : Vec F S512x7168 .fp8e4m3) (x1 : Vec F S512x128 .f32) (x2 : Vec F S7168x512 .fp8e4m3) (x3 : Vec F S1x512 .f32) (x4 : Vec F S512x128 .f32) (x5 : Vec F S512x128 .f32) (z : Vec F S512x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare z
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (codes4 (headR0 x0 x1 x2 x3 x4 x5) (headR1 x0 x1 x2 x3 x4 x5) (headR2 x0 x1 x2 x3 x4 x5) (headR3 x0 x1 x2 x3 x4 x5)) ∗ owns (c : Thread nD τ) arg9 fullShare (scales4 i 0#32 (headR0 x0 x1 x2 x3 x4 x5) (headR1 x0 x1 x2 x3 x4 x5) (headR2 x0 x1 x2 x3 x4 x5) (headR3 x0 x1 x2 x3 x4 x5) z)) -∗ K ⟨⟩))
      ⊢ wp frame (wpE (defs₀ (F := F)) Variants.none c none) E (cc0_qkv_proj i arg2 harg2 arg3 harg3 arg4 harg4 arg5 harg5 arg6 harg6 arg7 harg7 arg8 harg8 arg9 harg9 arg10 harg10 arg11 harg11 arg12 harg12 arg13 harg13) K := by
  simp only [cc0_qkv_proj_eq_skeleton]; unfold cc0_qkv_proj_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  subst hf0 hf1 hf2 hf3 hf4 hf5 hf7
  sl_exec (disch := first | sl_exact hc0 | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (cover4 _ _ _ _)).trans ?_
    rfl
  iexists _; isplitr
  swap; · iexact H7
  ipureintro
  refine (View.read_writes_eq_canon _ _ _ (cover1 _)).trans ?_
  rfl

end Cert.ProjIdeal.Hand

end
-- ==== Proof.ProjRunB.lean ====
module

public import proofs.«01_k».proof.Proof.ProjRunA

@[expose] public section

set_option maxRecDepth 16384

noncomputable section

namespace Cert.ProjIdeal.Hand

open Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a grid point of the key branch: from the inputs at `x0 … x5`, the branch's codes buffer at anything and
    its scales buffer at `z`, it ends with the inputs as they were, the codes at `codes4` of the branch's heads, and the
    scales at `scales4` of them over `z`. -/
theorem runB (c : Dev nD) (i : grid0.Coords) (arg2 : Memref sig .tc .vmem S512x7168 .fp8e4m3) (harg2 : arg2.IsWhole) (arg3 : Memref sig .tc .vmem S512x128 .f32) (harg3 : arg3.IsWhole) (arg4 : Memref sig .tc .vmem S7168x512 .fp8e4m3) (harg4 : arg4.IsWhole) (arg5 : Memref sig .tc .vmem S1x512 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x512 .fp8e4m3) (harg8 : arg8.IsWhole) (arg9 : Memref sig .tc .vmem S512x128 .f32) (harg9 : arg9.IsWhole) (arg10 : Memref sig .tc .vmem S512x512 .fp8e4m3) (harg10 : arg10.IsWhole) (arg11 : Memref sig .tc .vmem S512x128 .f32) (harg11 : arg11.IsWhole) (arg12 : Memref sig .tc .vmem S512x512 .fp8e4m3) (harg12 : arg12.IsWhole) (arg13 : Memref sig .tc .vmem S512x128 .f32) (harg13 : arg13.IsWhole) (hc0 : ¬cond0_0 i) (hc1 : cond0_1 i) (hc2 : ¬cond0_2 i)
    (x0 : Vec F S512x7168 .fp8e4m3) (x1 : Vec F S512x128 .f32) (x2 : Vec F S7168x512 .fp8e4m3) (x3 : Vec F S1x512 .f32) (x4 : Vec F S512x128 .f32) (x5 : Vec F S512x128 .f32) (z : Vec F S512x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg10 fullShare d) ∗ owns (c : Thread nD τ) arg11 fullShare z
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg10 fullShare (codes4 (headR0 x0 x1 x2 x3 x4 x5) (headR1 x0 x1 x2 x3 x4 x5) (headR2 x0 x1 x2 x3 x4 x5) (headR3 x0 x1 x2 x3 x4 x5)) ∗ owns (c : Thread nD τ) arg11 fullShare (scales4 i 32#32 (headR0 x0 x1 x2 x3 x4 x5) (headR1 x0 x1 x2 x3 x4 x5) (headR2 x0 x1 x2 x3 x4 x5) (headR3 x0 x1 x2 x3 x4 x5) z)) -∗ K ⟨⟩))
      ⊢ wp frame (wpE (defs₀ (F := F)) Variants.none c none) E (cc0_qkv_proj i arg2 harg2 arg3 harg3 arg4 harg4 arg5 harg5 arg6 harg6 arg7 harg7 arg8 harg8 arg9 harg9 arg10 harg10 arg11 harg11 arg12 harg12 arg13 harg13) K := by
  simp only [cc0_qkv_proj_eq_skeleton]; unfold cc0_qkv_proj_skel
  simp only [k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  subst hf0 hf1 hf2 hf3 hf4 hf5 hf7
  sl_exec (disch := first | sl_exact hc0 | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (cover4 _ _ _ _)).trans ?_
    rfl
  iexists _; isplitr
  swap; · iexact H7
  ipureintro
  refine (View.read_writes_eq_canon _ _ _ (cover1 _)).trans ?_
  rfl

end Cert.ProjIdeal.Hand

end
-- ==== Proof.ProjRunC.lean ====
module

public import proofs.«01_k».proof.Proof.ProjRunB

@[expose] public section

set_option maxRecDepth 16384

noncomputable section

namespace Cert.ProjIdeal.Hand

open Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a grid point of the value branch: from the inputs at `x0 … x5`, the branch's codes buffer at anything and
    its scales buffer at `z`, it ends with the inputs as they were, the codes at `codes4` of the branch's heads, and the
    scales at `scales4` of them over `z`. -/
theorem runC (c : Dev nD) (i : grid0.Coords) (arg2 : Memref sig .tc .vmem S512x7168 .fp8e4m3) (harg2 : arg2.IsWhole) (arg3 : Memref sig .tc .vmem S512x128 .f32) (harg3 : arg3.IsWhole) (arg4 : Memref sig .tc .vmem S7168x512 .fp8e4m3) (harg4 : arg4.IsWhole) (arg5 : Memref sig .tc .vmem S1x512 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x512 .fp8e4m3) (harg8 : arg8.IsWhole) (arg9 : Memref sig .tc .vmem S512x128 .f32) (harg9 : arg9.IsWhole) (arg10 : Memref sig .tc .vmem S512x512 .fp8e4m3) (harg10 : arg10.IsWhole) (arg11 : Memref sig .tc .vmem S512x128 .f32) (harg11 : arg11.IsWhole) (arg12 : Memref sig .tc .vmem S512x512 .fp8e4m3) (harg12 : arg12.IsWhole) (arg13 : Memref sig .tc .vmem S512x128 .f32) (harg13 : arg13.IsWhole) (hc0 : ¬cond0_0 i) (hc1 : ¬cond0_1 i) (hc2 : cond0_2 i)
    (x0 : Vec F S512x7168 .fp8e4m3) (x1 : Vec F S512x128 .f32) (x2 : Vec F S7168x512 .fp8e4m3) (x3 : Vec F S1x512 .f32) (x4 : Vec F S512x128 .f32) (x5 : Vec F S512x128 .f32) (z : Vec F S512x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg12 fullShare d) ∗ owns (c : Thread nD τ) arg13 fullShare z
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg12 fullShare (codes4 (headV0 x0 x1 x2 x3) (headV1 x0 x1 x2 x3) (headV2 x0 x1 x2 x3) (headV3 x0 x1 x2 x3)) ∗ owns (c : Thread nD τ) arg13 fullShare (scales4 i 64#32 (headV0 x0 x1 x2 x3) (headV1 x0 x1 x2 x3) (headV2 x0 x1 x2 x3) (headV3 x0 x1 x2 x3) z)) -∗ K ⟨⟩))
      ⊢ wp frame (wpE (defs₀ (F := F)) Variants.none c none) E (cc0_qkv_proj i arg2 harg2 arg3 harg3 arg4 harg4 arg5 harg5 arg6 harg6 arg7 harg7 arg8 harg8 arg9 harg9 arg10 harg10 arg11 harg11 arg12 harg12 arg13 harg13) K := by
  simp only [cc0_qkv_proj_eq_skeleton]; unfold cc0_qkv_proj_skel
  simp only [k0_part11_eq_skeleton, k0_part12_eq_skeleton, k0_part13_eq_skeleton, k0_part14_eq_skeleton, k0_part15_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  subst hf0 hf1 hf2 hf3 hf4 hf5 hf7
  sl_exec (disch := first | sl_exact hc0 | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (cover4 _ _ _ _)).trans ?_
    rfl
  iexists _; isplitr
  swap; · iexact H7
  ipureintro
  refine (View.read_writes_eq_canon _ _ _ (cover1 _)).trans ?_
  rfl

end Cert.ProjIdeal.Hand

end
-- ==== Proof.ProjHeads.lean ====
module

public import proofs.«01_k».proof.Proof.ProjBase
public import Idealize.ShloMosaic.Lib.PointwiseCore

@[expose] public section

set_option maxRecDepth 16384

noncomputable section

namespace Cert.ProjIdeal.Hand

open Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scale of row `r` of a head. -/
def rowScale (y : FVec F S512x128 .f32) (r : Fin 512) : F .f32 :=
  bitcastToFloat (F := F) .f32 (addi (bitsOf y) (broadcast S512x1 8388608#32)) (ix2 r (0 : Fin 1))

/-- A head's scales put into lane `p`: the row's scale there, what was there elsewhere. -/
theorem putScale_apply (p : BitVec 32) (y z : FVec F S512x128 .f32) (r : Fin 512) (l : Fin 128) :
    putScale p y z (ix2 r l) = if BitVec.ofNat 32 l.val = p then rowScale y r else z (ix2 r l) := by
  unfold putScale rowScale
  pointwise
  by_cases h : BitVec.ofNat 32 l.val = p
  · rw [if_pos h, h]; simp [Scalar.select, IntOp.cmpi]
  · rw [if_neg h]
    have hb : IntOp.cmpi CmpIPredicate.eq (BitVec.ofNat 32 l.val) p = 0#1 := by
      show BitVec.ofBool (BitVec.ofNat 32 l.val == p) = 0#1
      rw [beq_eq_false_iff_ne.mpr h]; rfl
    rw [hb]; rfl

/-- A load of a whole 512 by 128 buffer is the buffer. -/
theorem ld_rs (z : Vec F S512x128 .f32) (r : Fin 512) (l : Fin 128) : View.ld z rs (ix2 r l) = z (ix2 r l) := by
  unfold View.ld
  refine congrArg z ?_
  funext a; apply Fin.ext
  match a with
  | ⟨0, _⟩ => show 0 + 1 * r.val = r.val; omega
  | ⟨1, _⟩ => show 0 + 1 * l.val = l.val; omega

/-- The lane of each head of a tile, as a number. -/
theorem laneAt_eq : ∀ (j : Fin 96) (j0 h : Fin 96), j0 ≤ j → h < 4 →
    Scalar.addi (Scalar.muli (Scalar.subi (BitVec.ofNat 32 j.val) (BitVec.ofNat 32 j0.val)) 4#32) (BitVec.ofNat 32 h.val)
      = BitVec.ofNat 32 (4 * (j.val - j0.val) + h.val) := by
  intro j j0 h hj hh
  apply BitVec.eq_of_toNat_eq
  have h1 := j.isLt
  have hj' : j0.val ≤ j.val := hj
  have hh' : h.val < 4 := hh
  simp only [Scalar.addi, Scalar.muli, Scalar.subi, IntOp.addi, IntOp.muli, IntOp.subi, BitVec.toNat_add, BitVec.toNat_mul, BitVec.toNat_sub, BitVec.toNat_ofNat]
  omega

/-- The block of scales, element by element: lane `4 (j - j0) + h` holds head `h`'s scale, another lane what was there. -/
theorem scales4_apply (i : grid0.Coords) (j0 : Fin 96) (hj : j0.val ≤ (i 1).val) (hj' : (i 1).val - j0.val < 32)
    (ys : Fin 4 → FVec F S512x128 .f32) (z : Vec F S512x128 .f32) (r : Fin 512) (l : Fin 128) :
    scales4 i (BitVec.ofNat 32 j0.val) (ys 0) (ys 1) (ys 2) (ys 3) z (ix2 r l)
      = if l.val / 4 = (i 1).val - j0.val then rowScale (ys ⟨l.val % 4, Nat.mod_lt _ (by decide)⟩) r else z (ix2 r l) := by
  have hlane : ∀ h : Fin 96, h < 4 → laneAt i (BitVec.ofNat 32 j0.val) (BitVec.ofNat 32 h.val) = BitVec.ofNat 32 (4 * ((i 1).val - j0.val) + h.val) :=
    fun h hh => laneAt_eq ⟨(i 1).val, (i 1).isLt⟩ j0 h hj hh
  have hz : (shapeCast S512x128 (View.ld z rs) shapeCasts_S512x128_S512x128 : FVec F S512x128 .f32) (ix2 r l) = z (ix2 r l) := by
    pointwise
  have hl := l.isLt
  have heq : ∀ h : ℕ, h < 4 → (BitVec.ofNat 32 l.val = BitVec.ofNat 32 (4 * ((i 1).val - j0.val) + h) ↔ l.val = 4 * ((i 1).val - j0.val) + h) := by
    intro h hh
    constructor
    · intro e
      have := congrArg BitVec.toNat e
      simp only [BitVec.toNat_ofNat] at this
      omega
    · intro e; rw [e]
  unfold scales4
  have hemb : ∀ w : Vec F S512x128 .f32, View.canon [(⟨rs, w⟩ : View.Piece (Elt F) S512x128 .f32)] (ix2 r l) = w (ix2 r l) := by
    intro w
    refine Eq.trans (congrArg _ ?_) (View.canon_cons_emb rs w [] (ix2 r l))
    funext a; apply Fin.ext
    match a with
    | ⟨0, _⟩ => show r.val = 0 + 1 * r.val; omega
    | ⟨1, _⟩ => show l.val = 0 + 1 * l.val; omega
  rw [hemb]
  rw [putScale_apply, putScale_apply, putScale_apply, putScale_apply, hz]
  rw [show (3#32 : BitVec 32) = BitVec.ofNat 32 (3 : Fin 96).val from rfl, show (2#32 : BitVec 32) = BitVec.ofNat 32 (2 : Fin 96).val from rfl,
    show (1#32 : BitVec 32) = BitVec.ofNat 32 (1 : Fin 96).val from rfl, show (0#32 : BitVec 32) = BitVec.ofNat 32 (0 : Fin 96).val from rfl,
    hlane 3 (by decide), hlane 2 (by decide), hlane 1 (by decide), hlane 0 (by decide)]
  simp only [heq _ (show (3 : Fin 96).val < 4 by decide), heq _ (show (2 : Fin 96).val < 4 by decide), heq _ (show (1 : Fin 96).val < 4 by decide), heq _ (show (0 : Fin 96).val < 4 by decide)]
  rw [show (3 : Fin 96).val = 3 from rfl, show (2 : Fin 96).val = 2 from rfl, show (1 : Fin 96).val = 1 from rfl, show (0 : Fin 96).val = 0 from rfl]
  by_cases hd : l.val / 4 = (i 1).val - j0.val
  · rw [if_pos hd]
    have hm : l.val % 4 < 4 := Nat.mod_lt _ (by decide)
    obtain ⟨k, hk, hk4⟩ : ∃ k, l.val % 4 = k ∧ k < 4 := ⟨_, rfl, hm⟩
    have hys : ∀ (k' : Fin 4), k'.val = k → rowScale (ys ⟨l.val % 4, Nat.mod_lt _ (by decide)⟩) r = rowScale (ys k') r := by
      intro k' e; rw [show (⟨l.val % 4, Nat.mod_lt _ (by decide)⟩ : Fin 4) = k' from Fin.ext (by rw [e]; exact hk)]
    obtain rfl | rfl | rfl | rfl : k = 0 ∨ k = 1 ∨ k = 2 ∨ k = 3 := by omega
    · rw [if_neg (by omega), if_neg (by omega), if_neg (by omega), if_pos (by omega), hys 0 rfl]
    · rw [if_neg (by omega), if_neg (by omega), if_pos (by omega), hys 1 rfl]
    · rw [if_neg (by omega), if_pos (by omega), hys 2 rfl]
    · rw [if_pos (by omega), hys 3 rfl]
  · rw [if_neg hd, if_neg (by omega), if_neg (by omega), if_neg (by omega), if_neg (by omega)]

/-- The block of codes, element by element: column `128 h + e` holds head `h`'s code `e`. -/
theorem codes4_apply (ys : Fin 4 → FVec F S512x128 .f32) (r : Fin 512) (h : Fin 4) (e : Fin 128) (cc : Fin 512) (hc : cc.val = 128 * h.val + e.val) :
    codes4 (ys 0) (ys 1) (ys 2) (ys 3) (ix2 r cc) = codesOf (ys h) (ix2 r e) := by
  have he := e.isLt
  have hin : ∀ (o : ℕ) (ho : ∀ a, (![0, o] : Fin 2 → ℕ) a + S512x128.size a ≤ S512x512.size a) (w : Vec F S512x128 .fp8e4m3) (L : List (View.Piece (Elt F) S512x512 .fp8e4m3)),
      cc.val = o + e.val → View.canon (⟨Rect.unit (s := S512x512) ![0, o] S512x128.size ho, w⟩ :: L) (ix2 r cc) = w (ix2 r e) := by
    intro o ho w L hoe
    refine Eq.trans (congrArg _ ?_) (View.canon_cons_emb (Rect.unit (s := S512x512) ![0, o] S512x128.size ho) w L (ix2 r e))
    funext a; apply Fin.ext
    match a with
    | ⟨0, _⟩ => show r.val = 0 + 1 * r.val; omega
    | ⟨1, _⟩ => show cc.val = o + 1 * e.val; omega
  have hout : ∀ (o : ℕ) (ho : ∀ a, (![0, o] : Fin 2 → ℕ) a + S512x128.size a ≤ S512x512.size a) (w : Vec F S512x128 .fp8e4m3) (L : List (View.Piece (Elt F) S512x512 .fp8e4m3)),
      cc.val < o → View.canon (⟨Rect.unit (s := S512x512) ![0, o] S512x128.size ho, w⟩ :: L) (ix2 r cc) = View.canon L (ix2 r cc) := by
    intro o ho w L hlt
    refine View.canon_cons_of_not_mem _ L fun hm => ?_
    have h1 := ((Rect.mem_set_unit (s := S512x512) (off := ![0, o]) (size := S512x128.size) (inb := ho).mp hm) 1).1
    have h2 : o ≤ cc.val := h1
    omega
  unfold codes4
  match h with
  | ⟨0, _⟩ => rw [hout 384 _ _ _ (by simp only at hc; omega), hout 256 _ _ _ (by simp only at hc; omega), hout 128 _ _ _ (by simp only at hc; omega), hin 0 _ _ _ (by simp only at hc; omega)]; rfl
  | ⟨1, _⟩ => rw [hout 384 _ _ _ (by simp only at hc; omega), hout 256 _ _ _ (by simp only at hc; omega), hin 128 _ _ _ (by simp only at hc; omega)]; rfl
  | ⟨2, _⟩ => rw [hout 384 _ _ _ (by simp only at hc; omega), hin 256 _ _ _ (by simp only at hc; omega)]; rfl
  | ⟨3, _⟩ => rw [hin 384 _ _ _ (by simp only at hc; omega)]; rfl

end Cert.ProjIdeal.Hand

end
-- ==== Proof.ProjData.lean ====
module

public import proofs.«01_k».proof.Proof.ProjRunC
public import proofs.«01_k».proof.Proof.ProjHeads
public import Idealize.ShloMosaic.Lib.Pipeline.DatRel
public import Idealize.ShloMosaic.Lib.Pipeline.ArrRel
public import Idealize.ShloMosaic.Lib.Claim

@[expose] public section

set_option maxRecDepth 16384

noncomputable section

namespace Cert.ProjIdeal.Hand

open Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Heads at a grid point -/

/-- The four heads of a rotated tile. -/
def hR (x0 : Vec F S512x7168 .fp8e4m3) (x1 : Vec F S512x128 .f32) (x2 : Vec F S7168x512 .fp8e4m3) (x3 : Vec F S1x512 .f32) (x4 x5 : Vec F S512x128 .f32) : Fin 4 → FVec F S512x128 .f32
  | ⟨0, _⟩ => headR0 x0 x1 x2 x3 x4 x5
  | ⟨1, _⟩ => headR1 x0 x1 x2 x3 x4 x5
  | ⟨2, _⟩ => headR2 x0 x1 x2 x3 x4 x5
  | ⟨3, _⟩ => headR3 x0 x1 x2 x3 x4 x5

/-- The four heads of a tile that is not rotated. -/
def hV (x0 : Vec F S512x7168 .fp8e4m3) (x1 : Vec F S512x128 .f32) (x2 : Vec F S7168x512 .fp8e4m3) (x3 : Vec F S1x512 .f32) : Fin 4 → FVec F S512x128 .f32
  | ⟨0, _⟩ => headV0 x0 x1 x2 x3
  | ⟨1, _⟩ => headV1 x0 x1 x2 x3
  | ⟨2, _⟩ => headV2 x0 x1 x2 x3
  | ⟨3, _⟩ => headV3 x0 x1 x2 x3

/-- The rotated heads at grid point `t`, from the input blocks there. -/
def rAt (c : Dev nD) (t : Fin cfg0.N) : Fin 4 → FVec F S512x128 .f32 :=
  hR (iblk m c 0 t) (iblk m c 1 t) (iblk m c 2 t) (iblk m c 3 t) (iblk m c 4 t) (iblk m c 5 t)

/-- The plain heads at grid point `t`. -/
def vAt (c : Dev nD) (t : Fin cfg0.N) : Fin 4 → FVec F S512x128 .f32 :=
  hV (iblk m c 0 t) (iblk m c 1 t) (iblk m c 2 t) (iblk m c 3 t)

/-- The block of codes four heads leave, the heads as a function. -/
abbrev codesF (ys : Fin 4 → FVec F S512x128 .f32) : Vec F S512x512 .fp8e4m3 := codes4 (ys 0) (ys 1) (ys 2) (ys 3)

/-- The point of `t`'s row of tiles that is `t` itself or tile `j1`, whichever comes first. -/
def upTo (j1 : ℕ) (t : Fin cfg0.N) : Fin cfg0.N := ⟨t.val - (t.val % 96 - j1), Nat.lt_of_le_of_lt (Nat.sub_le _ _) t.isLt⟩

/-- The point of `t`'s row of tiles at tile `j`. -/
def tileAt (t : Fin cfg0.N) (j : ℕ) (hj : j < 96) : Fin cfg0.N := ⟨t.val - t.val % 96 + j, by
  have h : t.val < 576 := lt_of_lt_of_eq t.isLt (show cfg0.N = 576 from N_0)
  exact lt_of_lt_of_eq (by omega : _ < 576) (show cfg0.N = 576 from N_0).symm⟩

/-- The tile of a branch (first tile `j0 ≤ 64`) that lane `l` belongs to. -/
theorem lane_lt (j0 : ℕ) (h0 : j0 ≤ 64) (l : Fin 128) : j0 + l.val / 4 < 96 := by omega

/-- The head of its tile that lane `l` belongs to. -/
abbrev hd (l : Fin 128) : Fin 4 := ⟨l.val % 4, Nat.mod_lt _ (by decide)⟩

/-- The output windows, held to a predicate. -/
def forgets0 : Fin 12 → Bool := fun w => w.val == 6 || w.val == 7 || w.val == 8 || w.val == 9 || w.val == 10 || w.val == 11

/-- The proof data of the one pipeline on core `c`: the arrays as the region finds them (`V`); after the body at
    point `t` each input's buffer at its block and the outputs unnamed; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- WHAT EACH OUTPUT BUFFER HOLDS after the body at point `t`: the codes of the branch's latest tile, and the scales of
    the tiles the branch has met in this row of tiles, lane by lane. Before its branch has met a tile of the row, nothing. -/
def Rl (c : Dev nD) : (w : Fin cfg0.W) → Fin cfg0.N → ((cfg0.win w).block.Idx → Elt F (cfg0.win w).elt) → Prop := fun w t =>
  match w with
  | ⟨6, _⟩ => fun (X : Vec F S512x512 .fp8e4m3) => X = codesF (rAt m c (upTo 31 t))
  | ⟨7, _⟩ => fun (X : Vec F S512x128 .f32) => ∀ (r : Fin 512) (l : Fin 128), 0 + l.val / 4 ≤ t.val % 96 →
      X (ix2 r l) = rowScale (rAt m c (tileAt t (0 + l.val / 4) (lane_lt 0 (by decide) l)) (hd l)) r
  | ⟨8, _⟩ => fun (X : Vec F S512x512 .fp8e4m3) => 32 ≤ t.val % 96 → X = codesF (rAt m c (upTo 63 t))
  | ⟨9, _⟩ => fun (X : Vec F S512x128 .f32) => ∀ (r : Fin 512) (l : Fin 128), 32 + l.val / 4 ≤ t.val % 96 →
      X (ix2 r l) = rowScale (rAt m c (tileAt t (32 + l.val / 4) (lane_lt 32 (by decide) l)) (hd l)) r
  | ⟨10, _⟩ => fun (X : Vec F S512x512 .fp8e4m3) => 64 ≤ t.val % 96 → X = codesF (vAt m c t)
  | ⟨11, _⟩ => fun (X : Vec F S512x128 .f32) => ∀ (r : Fin 512) (l : Fin 128), 64 + l.val / 4 ≤ t.val % 96 →
      X (ix2 r l) = rowScale (vAt m c (tileAt t (64 + l.val / 4) (lane_lt 64 (by decide) l)) (hd l)) r
  | _ => fun _ => True

/-- The relational proof data: the outputs held to `Rl`. -/
abbrev rdat (c : Dev nD) := (dats m 0 c).toRRel forgets0 (Rl m c)

/-- The codes of the query branch are written back after each of its tiles but the last, and at the row's end. -/
theorem flush0_6 : ∀ t : Fin cfg0.N, (cfg0.win 6).flush t = true ↔ (t.val % 96 < 31 ∨ t.val % 96 = 95) :=
  (by decide +kernel : ∀ t : Fin grid0.N, win0_6.flush t = true ↔ (t.val % 96 < 31 ∨ t.val % 96 = 95))
/-- The codes of the key branch likewise. -/
theorem flush0_8 : ∀ t : Fin cfg0.N, (cfg0.win 8).flush t = true ↔ ((32 ≤ t.val % 96 ∧ t.val % 96 < 63) ∨ t.val % 96 = 95) :=
  (by decide +kernel : ∀ t : Fin grid0.N, win0_8.flush t = true ↔ ((32 ≤ t.val % 96 ∧ t.val % 96 < 63) ∨ t.val % 96 = 95))
/-- The codes of the value branch after each of its tiles. -/
theorem flush0_10 : ∀ t : Fin cfg0.N, (cfg0.win 10).flush t = true ↔ 64 ≤ t.val % 96 :=
  (by decide +kernel : ∀ t : Fin grid0.N, win0_10.flush t = true ↔ 64 ≤ t.val % 96)

/-- What an output buffer holds where its last block was not just written back: what the point before left. -/
theorem finds_prev (c : Dev nD) (w : Fin cfg0.W) (hw : forgets0 w = true) (t : Fin cfg0.N) (hf : (cfg0.win w).fetch t = false) (h0 : t.val ≠ 0)
    (hfl : ¬ (cfg0.win w).flush ⟨t.val - 1, Nat.lt_of_le_of_lt (Nat.sub_le _ _) t.isLt⟩ = true)
    (Y : (cfg0.win w).block.Idx → Elt F (cfg0.win w).elt) (hY : (rdat m c).Finds w t Y) :
    Rl m c w ⟨t.val - 1, Nat.lt_of_le_of_lt (Nat.sub_le _ _) t.isLt⟩ Y := by
  rcases ((rdat m c).finds_of_pos hf h0 Y).mp hY with h | h
  · exact absurd h hfl
  · exact (dats m 0 c).toRRel_leaves hw h

/-- Past its last tile a branch's latest tile stays. -/
theorem upTo_prev (j1 : ℕ) (t : Fin cfg0.N) (h : j1 < t.val % 96) : upTo j1 ⟨t.val - 1, Nat.lt_of_le_of_lt (Nat.sub_le _ _) t.isLt⟩ = upTo j1 t := by
  apply Fin.ext; simp only [upTo]; omega
/-- The tiles of a row are the same from each of its points. -/
theorem tileAt_prev (t : Fin cfg0.N) (j : ℕ) (hj : j < 96) (h : 0 < t.val % 96) : tileAt ⟨t.val - 1, Nat.lt_of_le_of_lt (Nat.sub_le _ _) t.isLt⟩ j hj = tileAt t j hj := by
  apply Fin.ext; simp only [tileAt]; omega
/-- A point up to a later tile is the point itself. -/
theorem upTo_self (j1 : ℕ) (t : Fin cfg0.N) (h : t.val % 96 ≤ j1) : upTo j1 t = t := by
  apply Fin.ext; simp only [upTo]; omega
/-- The tile of a point is the point. -/
theorem tileAt_self (t : Fin cfg0.N) (j : ℕ) (hj : j < 96) (h : j = t.val % 96) : tileAt t j hj = t := by
  apply Fin.ext; simp only [tileAt]; omega

/-- The second coordinate of a grid point. -/
theorem coords_1 : ∀ t : Fin cfg0.N, ((grid0.coords t) 1).val = t.val % 96 :=
  (by decide +kernel : ∀ t : Fin grid0.N, ((grid0.coords t) 1).val = t.val % 96)

/-- The scales after a tile of a branch with first tile `j0`: the earlier tiles' lanes kept, this tile's lanes set. -/
theorem scales_step (ys : Fin cfg0.N → Fin 4 → FVec F S512x128 .f32) (j0 : Fin 96) (h0 : j0.val ≤ 64) (t : Fin cfg0.N) (hj : j0.val ≤ t.val % 96) (hj' : t.val % 96 < j0.val + 32)
    (Y : Vec F S512x128 .f32)
    (hY : j0.val < t.val % 96 → ∀ (r : Fin 512) (l : Fin 128), j0.val + l.val / 4 ≤ (t.val - 1) % 96 →
      Y (ix2 r l) = rowScale (ys (tileAt ⟨t.val - 1, Nat.lt_of_le_of_lt (Nat.sub_le _ _) t.isLt⟩ (j0.val + l.val / 4) (lane_lt j0.val h0 l)) (hd l)) r)
    (r : Fin 512) (l : Fin 128) (hl : j0.val + l.val / 4 ≤ t.val % 96) :
    scales4 (grid0.coords t) (BitVec.ofNat 32 j0.val) (ys t 0) (ys t 1) (ys t 2) (ys t 3) Y (ix2 r l)
      = rowScale (ys (tileAt t (j0.val + l.val / 4) (lane_lt j0.val h0 l)) (hd l)) r := by
  rw [scales4_apply (grid0.coords t) j0 (by rw [coords_1]; exact hj) (by rw [coords_1]; omega) (ys t) Y r l, coords_1]
  by_cases h : l.val / 4 = t.val % 96 - j0.val
  · rw [if_pos h, tileAt_self t _ _ (by omega)]
  · rw [if_neg h, hY (by omega) r l (by omega), tileAt_prev t _ _ (by omega)]

/-! ## The body obligation, at a generic point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ Y, ⌜(rdat m c).Finds 6 t Y⌝ ∗ owns (c : Thread nD τ) (ms0_6 t) fullShare Y)
    ∗ (∃ Y, ⌜(rdat m c).Finds 7 t Y⌝ ∗ owns (c : Thread nD τ) (ms0_7 t) fullShare Y)
    ∗ (∃ Y, ⌜(rdat m c).Finds 8 t Y⌝ ∗ owns (c : Thread nD τ) (ms0_8 t) fullShare Y)
    ∗ (∃ Y, ⌜(rdat m c).Finds 9 t Y⌝ ∗ owns (c : Thread nD τ) (ms0_9 t) fullShare Y)
    ∗ (∃ Y, ⌜(rdat m c).Finds 10 t Y⌝ ∗ owns (c : Thread nD τ) (ms0_10 t) fullShare Y)
    ∗ (∃ Y, ⌜(rdat m c).Finds 11 t Y⌝ ∗ owns (c : Thread nD τ) (ms0_11 t) fullShare Y))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ X, ⌜Rl m c 6 t X⌝ ∗ owns (c : Thread nD τ) (ms0_6 t) fullShare X)
    ∗ (∃ X, ⌜Rl m c 7 t X⌝ ∗ owns (c : Thread nD τ) (ms0_7 t) fullShare X)
    ∗ (∃ X, ⌜Rl m c 8 t X⌝ ∗ owns (c : Thread nD τ) (ms0_8 t) fullShare X)
    ∗ (∃ X, ⌜Rl m c 9 t X⌝ ∗ owns (c : Thread nD τ) (ms0_9 t) fullShare X)
    ∗ (∃ X, ⌜Rl m c 10 t X⌝ ∗ owns (c : Thread nD τ) (ms0_10 t) fullShare X)
    ∗ (∃ X, ⌜Rl m c 11 t X⌝ ∗ owns (c : Thread nD τ) (ms0_11 t) fullShare X))

/-- The previous point. -/
abbrev pv (t : Fin cfg0.N) : Fin cfg0.N := ⟨t.val - 1, Nat.lt_of_le_of_lt (Nat.sub_le _ _) t.isLt⟩

/-- The query codes stay past the query branch. -/
theorem keep6 (c : Dev nD) (t : Fin cfg0.N) (h : 32 ≤ t.val % 96) (Y) (hY : (rdat m c).Finds 6 t Y) : Rl m c 6 t Y := by
  have e : (Y : Vec F S512x512 .fp8e4m3) = codesF (rAt m c (upTo 31 (pv t))) :=
    finds_prev m c 6 rfl t rfl (by omega) (fun e => by have h2 := (flush0_6 (pv t)).mp e; simp only [pv] at h2; omega) Y hY
  rw [upTo_prev 31 t (by omega)] at e; exact e
/-- The key codes stay past the key branch. -/
theorem keep8 (c : Dev nD) (t : Fin cfg0.N) (h : 64 ≤ t.val % 96) (Y) (hY : (rdat m c).Finds 8 t Y) : Rl m c 8 t Y := fun _ => by
  have e : 32 ≤ (t.val - 1) % 96 → (Y : Vec F S512x512 .fp8e4m3) = codesF (rAt m c (upTo 63 (pv t))) :=
    finds_prev m c 8 rfl t rfl (by omega) (fun e => by have h2 := (flush0_8 (pv t)).mp e; simp only [pv] at h2; omega) Y hY
  have e := e (by omega)
  rw [upTo_prev 63 t (by omega)] at e; exact e
/-- The query scales met so far are found at the next tile of the row. -/
theorem found7 (c : Dev nD) (t : Fin cfg0.N) (h : 0 < t.val % 96) (Y : Vec F S512x128 .f32) (hY : (rdat m c).Finds 7 t Y) :
    ∀ (r : Fin 512) (l : Fin 128), 0 + l.val / 4 ≤ (t.val - 1) % 96 → Y (ix2 r l) = rowScale (rAt m c (tileAt (pv t) (0 + l.val / 4) (lane_lt 0 (by decide) l)) (hd l)) r :=
  finds_prev m c 7 rfl t rfl (by omega) (fun e => by have h2 := (flush0_7 (pv t)).mp e; simp only [pv] at h2; omega) Y hY
/-- The key scales likewise. -/
theorem found9 (c : Dev nD) (t : Fin cfg0.N) (h : 0 < t.val % 96) (Y : Vec F S512x128 .f32) (hY : (rdat m c).Finds 9 t Y) :
    ∀ (r : Fin 512) (l : Fin 128), 32 + l.val / 4 ≤ (t.val - 1) % 96 → Y (ix2 r l) = rowScale (rAt m c (tileAt (pv t) (32 + l.val / 4) (lane_lt 32 (by decide) l)) (hd l)) r :=
  finds_prev m c 9 rfl t rfl (by omega) (fun e => by have h2 := (flush0_9 (pv t)).mp e; simp only [pv] at h2; omega) Y hY
/-- The value scales likewise. -/
theorem found11 (c : Dev nD) (t : Fin cfg0.N) (h : 0 < t.val % 96) (Y : Vec F S512x128 .f32) (hY : (rdat m c).Finds 11 t Y) :
    ∀ (r : Fin 512) (l : Fin 128), 64 + l.val / 4 ≤ (t.val - 1) % 96 → Y (ix2 r l) = rowScale (vAt m c (tileAt (pv t) (64 + l.val / 4) (lane_lt 64 (by decide) l)) (hd l)) r :=
  finds_prev m c 11 rfl t rfl (by omega) (fun e => by have h2 := (flush0_11 (pv t)).mp e; simp only [pv] at h2; omega) Y hY
/-- The query scales stay past the query branch. -/
theorem keep7 (c : Dev nD) (t : Fin cfg0.N) (h : 32 ≤ t.val % 96) (Y) (hY : (rdat m c).Finds 7 t Y) : Rl m c 7 t Y := fun r l _ => by
  have e := found7 m c t (by omega) Y hY r l (by omega)
  rw [tileAt_prev t _ _ (by omega)] at e; exact e
/-- The key scales stay past the key branch. -/
theorem keep9 (c : Dev nD) (t : Fin cfg0.N) (h : 64 ≤ t.val % 96) (Y) (hY : (rdat m c).Finds 9 t Y) : Rl m c 9 t Y := fun r l _ => by
  have e := found9 m c t (by omega) Y hY r l (by omega)
  rw [tileAt_prev t _ _ (by omega)] at e; exact e

set_option maxHeartbeats 2000000 in
/-- The body at a point of the query branch. -/
theorem sound_bodyA (c : Dev nD) (t : Fin cfg0.N) (h : t.val % 96 ≤ 31) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, after0_0, after0_1, after0_2, after0_3, after0_4, after0_5]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%Y6, %hY6, H6⟩, ⟨%Y7, %hY7, H7⟩, ⟨%Y8, %hY8, H8⟩, ⟨%Y9, %hY9, H9⟩, ⟨%Y10, %hY10, H10⟩, ⟨%Y11, %hY11, H11⟩⟩
  iapply (runA c (grid0.coords t) _ _ _ _ _ _ _ _ _ _ _ _ _ _ _ _ _ _ _ _ _ _ _ _ ((hcond0_0 t).mpr h) (fun e => by have := (hcond0_1 t).mp e; omega) (fun e => by have := (hcond0_2 t).mp e; omega) (iblk m c 0 t) (iblk m c 1 t) (iblk m c 2 t) (iblk m c 3 t) (iblk m c 4 t) (iblk m c 5 t) Y7 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; isplitr
    swap; · iexact H6
    ipureintro
    exact by show _ = codesF (rAt m c (upTo 31 t)); rw [upTo_self 31 t h]; rfl
  isplitl [H7]
  · iexists _; isplitr
    swap; · iexact H7
    ipureintro
    exact scales_step (rAt m c) 0 (by decide) t (by simp) (by show _ < 0 + 32; omega) Y7 (fun hh r l hl => found7 m c t hh Y7 hY7 r l hl)
  isplitl [H8]
  · iexists _; isplitr
    swap; · iexact H8
    ipureintro
    exact fun hh => by omega
  isplitl [H9]
  · iexists _; isplitr
    swap; · iexact H9
    ipureintro
    exact fun r l hh => by omega
  isplitl [H10]
  · iexists _; isplitr
    swap; · iexact H10
    ipureintro
    exact fun hh => by omega
  iexists _; isplitr
  swap; · iexact H11
  ipureintro
  exact fun r l hh => by omega

set_option maxHeartbeats 2000000 in
/-- The body at a point of the key branch. -/
theorem sound_bodyB (c : Dev nD) (t : Fin cfg0.N) (h : 32 ≤ t.val % 96) (h' : t.val % 96 ≤ 63) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, after0_0, after0_1, after0_2, after0_3, after0_4, after0_5]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%Y6, %hY6, H6⟩, ⟨%Y7, %hY7, H7⟩, ⟨%Y8, %hY8, H8⟩, ⟨%Y9, %hY9, H9⟩, ⟨%Y10, %hY10, H10⟩, ⟨%Y11, %hY11, H11⟩⟩
  iapply (runB c (grid0.coords t) _ _ _ _ _ _ _ _ _ _ _ _ _ _ _ _ _ _ _ _ _ _ _ _ (fun e => by have := (hcond0_0 t).mp e; omega) ((hcond0_1 t).mpr ⟨h, h'⟩) (fun e => by have := (hcond0_2 t).mp e; omega) (iblk m c 0 t) (iblk m c 1 t) (iblk m c 2 t) (iblk m c 3 t) (iblk m c 4 t) (iblk m c 5 t) Y9 Set.univ _)
  isplitl [H0]; · iexact H0
  isplitl [H1]; · iexact H1
  isplitl [H2]; · iexact H2
  isplitl [H3]; · iexact H3
  isplitl [H4]; · iexact H4
  isplitl [H5]; · iexact H5
  isplitl [H8]; · iexists _; iexact H8
  isplitl [H9]; · iexact H9
  iintro ⟨H0, H1, H2, H3, H4, H5, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; isplitr
    swap; · iexact H6
    ipureintro
    exact keep6 m c t h Y6 hY6
  isplitl [H7]
  · iexists _; isplitr
    swap; · iexact H7
    ipureintro
    exact keep7 m c t h Y7 hY7
  isplitl [H8]
  · iexists _; isplitr
    swap; · iexact H8
    ipureintro
    exact fun _ => by rw [upTo_self 63 t h']; rfl
  isplitl [H9]
  · iexists _; isplitr
    swap; · iexact H9
    ipureintro
    exact scales_step (rAt m c) 32 (by decide) t h (by show _ < 32 + 32; omega) Y9 (fun hh r l hl => found9 m c t (by omega) Y9 hY9 r l hl)
  isplitl [H10]
  · iexists _; isplitr
    swap; · iexact H10
    ipureintro
    exact fun hh => by omega
  iexists _; isplitr
  swap; · iexact H11
  ipureintro
  exact fun r l hh => by omega

set_option maxHeartbeats 2000000 in
/-- The body at a point of the value branch. -/
theorem sound_bodyC (c : Dev nD) (t : Fin cfg0.N) (h : 64 ≤ t.val % 96) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, after0_0, after0_1, after0_2, after0_3, after0_4, after0_5]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%Y6, %hY6, H6⟩, ⟨%Y7, %hY7, H7⟩, ⟨%Y8, %hY8, H8⟩, ⟨%Y9, %hY9, H9⟩, ⟨%Y10, %hY10, H10⟩, ⟨%Y11, %hY11, H11⟩⟩
  iapply (runC c (grid0.coords t) _ _ _ _ _ _ _ _ _ _ _ _ _ _ _ _ _ _ _ _ _ _ _ _ (fun e => by have := (hcond0_0 t).mp e; omega) (fun e => by have := (hcond0_1 t).mp e; omega) ((hcond0_2 t).mpr h) (iblk m c 0 t) (iblk m c 1 t) (iblk m c 2 t) (iblk m c 3 t) (iblk m c 4 t) (iblk m c 5 t) Y11 Set.univ _)
  isplitl [H0]; · iexact H0
  isplitl [H1]; · iexact H1
  isplitl [H2]; · iexact H2
  isplitl [H3]; · iexact H3
  isplitl [H4]; · iexact H4
  isplitl [H5]; · iexact H5
  isplitl [H10]; · iexists _; iexact H10
  isplitl [H11]; · iexact H11
  iintro ⟨H0, H1, H2, H3, H4, H5, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; isplitr
    swap; · iexact H6
    ipureintro
    exact keep6 m c t (by omega) Y6 hY6
  isplitl [H7]
  · iexists _; isplitr
    swap; · iexact H7
    ipureintro
    exact keep7 m c t (by omega) Y7 hY7
  isplitl [H8]
  · iexists _; isplitr
    swap; · iexact H8
    ipureintro
    exact keep8 m c t h Y8 hY8
  isplitl [H9]
  · iexists _; isplitr
    swap; · iexact H9
    ipureintro
    exact keep9 m c t h Y9 hY9
  isplitl [H10]
  · iexists _; isplitr
    swap; · iexact H10
    ipureintro
    exact fun _ => rfl
  iexists _; isplitr
  swap; · iexact H11
  ipureintro
  exact scales_step (vAt m c) 64 (by decide) t h (by show _ < 64 + 32; omega) Y11 (fun hh r l hl => found11 m c t (by omega) Y11 hY11 r l hl)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h : t.val % 96 ≤ 31
  · exact sound_bodyA m c t h
  by_cases h' : t.val % 96 ≤ 63
  · exact sound_bodyB m c t (by omega) h'
  · exact sound_bodyC m c t (by omega)

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point. -/
theorem body_obligation (c : Dev nD) : Pipeline.BodyObligationRel (dats (F := F) m 0 c) (defs₀ (F := F)) Variants.none () Set.univ forgets0 (Rl m c) := fun t => by
  rw [bigSep_W0, bigSep_W0, defs₀_row]
  exact triple_restated (sound_body m c t) rfl .rfl fun _ => .rfl

/-! ## The run -/

set_option backward.isDefEq.respectTransparency.types false in
/-- THE RUN: the program ends with every semaphore at zero and its arrays as the relational proof data have them. -/
theorem run_main_quiescent : θ_run defs (onTc (τ := τ) (main (F := F))) (s₀ m ρ) (fun r => (Pipeline.RDat.FramePost (cfgs 0) (rdat m) (V m)) r ∧ r.2.sem = fun _ => 0) :=
  Pipeline.RDat.θ_run_frame_track (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hin := fun _ => .rfl) (hout := fun _ => .rfl)

/-- The run, without the counters. -/
theorem run_main : θ_run defs (onTc (τ := τ) (main (F := F))) (s₀ m ρ) (Pipeline.RDat.FramePost (cfgs 0) (rdat m) (V m)) :=
  (θ_run defs _ _).mono (fun _ h => h.1) (run_main_quiescent m ρ)

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_ProjIdeal`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (rdat m) (A_eq m) (run_main m ρ)

/-- THE FRAME: the arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.ProjIdeal.Hand

end
-- ==== Proof.ProjArr.lean ====
module

public import proofs.«01_k».proof.Proof.ProjData
public import Idealize.ShloMosaic.Lib.Pipeline.ValueKit.Geometry
public import Idealize.ShloMosaic.Lib.Pipeline.ValueKit.Point

@[expose] public section

set_option maxRecDepth 16384

noncomputable section

namespace Cert.ProjIdeal.Hand

open Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The result arrays -/

/-- The grid point at tile row `a`, tile column `j`. -/
def ptN (a j : ℕ) : Fin cfg0.N := ⟨(96 * a + j) % 576, lt_of_lt_of_eq (Nat.mod_lt _ (by decide)) (show cfg0.N = 576 from N_0).symm⟩

/-- Column `n`'s head within its tile. -/
abbrev head (n : ℕ) : Fin 4 := ⟨n / 128 % 4, Nat.mod_lt _ (by decide)⟩
/-- Column `n` within its head. -/
abbrev lane (n : ℕ) : Fin 128 := ⟨n % 128, Nat.mod_lt _ (by decide)⟩
/-- Row `n` within its tile. -/
abbrev row (n : ℕ) : Fin 512 := ⟨n % 512, Nat.mod_lt _ (by decide)⟩

/-- The codes array of a branch with first tile `j0`: each element from its tile's head. -/
def codesArr (ys : Fin cfg0.N → Fin 4 → FVec F S512x128 .f32) (j0 : ℕ) : Vec F S3072x16384 .fp8e4m3 := fun i =>
  codesOf (ys (ptN ((i 0).val / 512) (j0 + (i 1).val / 512)) (head (i 1).val)) (ix2 (row (i 0).val) (lane (i 1).val))

/-- The scales array of a branch with first tile `j0`: column `l` is head `l % 4` of tile `l / 4`. -/
def scalesArr (ys : Fin cfg0.N → Fin 4 → FVec F S512x128 .f32) (j0 : ℕ) : Vec F S3072x128 .f32 := fun i =>
  rowScale (ys (ptN ((i 0).val / 512) (j0 + (i 1).val / 4)) ⟨(i 1).val % 4, Nat.mod_lt _ (by decide)⟩) (row (i 0).val)

/-- Window 0's block index. -/
theorem idx_0 : ∀ t : Fin cfg0.N, (cfg0.win 0).index t 0 = t.val / 96 ∧ (cfg0.win 0).index t 1 = 0 :=
  (by decide +kernel : ∀ t : Fin grid0.N, win0_0.index t 0 = t.val / 96 ∧ win0_0.index t 1 = 0)
/-- Window 1's block index. -/
theorem idx_1 : ∀ t : Fin cfg0.N, (cfg0.win 1).index t 0 = t.val / 96 ∧ (cfg0.win 1).index t 1 = 0 :=
  (by decide +kernel : ∀ t : Fin grid0.N, win0_1.index t 0 = t.val / 96 ∧ win0_1.index t 1 = 0)
/-- Window 2's block index. -/
theorem idx_2 : ∀ t : Fin cfg0.N, (cfg0.win 2).index t 0 = 0 ∧ (cfg0.win 2).index t 1 = t.val % 96 :=
  (by decide +kernel : ∀ t : Fin grid0.N, win0_2.index t 0 = 0 ∧ win0_2.index t 1 = t.val % 96)
/-- Window 3's block index. -/
theorem idx_3 : ∀ t : Fin cfg0.N, (cfg0.win 3).index t 0 = 0 ∧ (cfg0.win 3).index t 1 = t.val % 96 :=
  (by decide +kernel : ∀ t : Fin grid0.N, win0_3.index t 0 = 0 ∧ win0_3.index t 1 = t.val % 96)
/-- Window 4's block index. -/
theorem idx_4 : ∀ t : Fin cfg0.N, (cfg0.win 4).index t 0 = t.val / 96 ∧ (cfg0.win 4).index t 1 = 0 :=
  (by decide +kernel : ∀ t : Fin grid0.N, win0_4.index t 0 = t.val / 96 ∧ win0_4.index t 1 = 0)
/-- Window 5's block index. -/
theorem idx_5 : ∀ t : Fin cfg0.N, (cfg0.win 5).index t 0 = t.val / 96 ∧ (cfg0.win 5).index t 1 = 0 :=
  (by decide +kernel : ∀ t : Fin grid0.N, win0_5.index t 0 = t.val / 96 ∧ win0_5.index t 1 = 0)
/-- Window 6's block index. -/
theorem idx_6 : ∀ t : Fin cfg0.N, (cfg0.win 6).index t 0 = t.val / 96 ∧ (cfg0.win 6).index t 1 = min (t.val % 96) 31 :=
  (by decide +kernel : ∀ t : Fin grid0.N, win0_6.index t 0 = t.val / 96 ∧ win0_6.index t 1 = min (t.val % 96) 31)
/-- Window 7's block index. -/
theorem idx_7 : ∀ t : Fin cfg0.N, (cfg0.win 7).index t 0 = t.val / 96 ∧ (cfg0.win 7).index t 1 = 0 :=
  (by decide +kernel : ∀ t : Fin grid0.N, win0_7.index t 0 = t.val / 96 ∧ win0_7.index t 1 = 0)
/-- Window 8's block index. -/
theorem idx_8 : ∀ t : Fin cfg0.N, (cfg0.win 8).index t 0 = t.val / 96 ∧ (cfg0.win 8).index t 1 = min (t.val % 96 - 32) 31 :=
  (by decide +kernel : ∀ t : Fin grid0.N, win0_8.index t 0 = t.val / 96 ∧ win0_8.index t 1 = min (t.val % 96 - 32) 31)
/-- Window 9's block index. -/
theorem idx_9 : ∀ t : Fin cfg0.N, (cfg0.win 9).index t 0 = t.val / 96 ∧ (cfg0.win 9).index t 1 = 0 :=
  (by decide +kernel : ∀ t : Fin grid0.N, win0_9.index t 0 = t.val / 96 ∧ win0_9.index t 1 = 0)
/-- Window 10's block index. -/
theorem idx_10 : ∀ t : Fin cfg0.N, (cfg0.win 10).index t 0 = t.val / 96 ∧ (cfg0.win 10).index t 1 = t.val % 96 - 64 :=
  (by decide +kernel : ∀ t : Fin grid0.N, win0_10.index t 0 = t.val / 96 ∧ win0_10.index t 1 = t.val % 96 - 64)
/-- Window 11's block index. -/
theorem idx_11 : ∀ t : Fin cfg0.N, (cfg0.win 11).index t 0 = t.val / 96 ∧ (cfg0.win 11).index t 1 = 0 :=
  (by decide +kernel : ∀ t : Fin grid0.N, win0_11.index t 0 = t.val / 96 ∧ win0_11.index t 1 = 0)

/-- A block of codes read at an index, against the array of them. -/
theorem codes_point (ys : Fin cfg0.N → Fin 4 → FVec F S512x128 .f32) (j0 : ℕ) (u t : Fin cfg0.N) (y : S512x512.Idx) (i : S3072x16384.Idx) (b : ℕ)
    (h0 : (i 0).val = t.val / 96 * 512 + (y 0).val) (h1 : (i 1).val = b * 512 + (y 1).val) (hu : u.val = 96 * (t.val / 96) + (j0 + b)) :
    codesF (ys u) y = codesArr ys j0 i := by
  have hlt : u.val < 576 := lt_of_lt_of_eq u.isLt (show cfg0.N = 576 from N_0)
  have hy0 : (y 0).val < 512 := (y 0).isLt
  have hy1 : (y 1).val < 512 := (y 1).isLt
  have e : ptN ((i 0).val / 512) (j0 + (i 1).val / 512) = u := by
    apply Fin.ext; simp only [ptN]; rw [h0, h1]; omega
  have eh : head (i 1).val = head (y 1).val := by apply Fin.ext; simp only [head]; rw [h1]; omega
  have er : row (i 0).val = y 0 := by apply Fin.ext; simp only [row]; rw [h0]; show _ = (y 0).val; omega
  have el : lane (i 1).val = lane (y 1).val := by apply Fin.ext; simp only [lane]; rw [h1]; omega
  unfold codesArr
  rw [e, eh, er, el, ← codes4_apply (ys u) (y 0) (head (y 1).val) (lane (y 1).val) (y 1) (by simp only [head, lane]; omega), ← eq_ix2]

/-- A block of scales likewise. -/
theorem scales_point (ys : Fin cfg0.N → Fin 4 → FVec F S512x128 .f32) (j0 : ℕ) (h0' : j0 ≤ 64) (t : Fin cfg0.N) (y : S512x128.Idx) (i : S3072x128.Idx) (X : Vec F S512x128 .f32)
    (hX : ∀ (r : Fin 512) (l : Fin 128), j0 + l.val / 4 ≤ t.val % 96 → X (ix2 r l) = rowScale (ys (tileAt t (j0 + l.val / 4) (lane_lt j0 h0' l)) (hd l)) r)
    (ht : t.val % 96 = 95)
    (h0 : (i 0).val = t.val / 96 * 512 + (y 0).val) (h1 : (i 1).val = (y 1).val) :
    X y = scalesArr ys j0 i := by
  have hlt : t.val < 576 := lt_of_lt_of_eq t.isLt (show cfg0.N = 576 from N_0)
  have hy0 : (y 0).val < 512 := (y 0).isLt
  have hy1 : (y 1).val < 128 := (y 1).isLt
  have e : ptN ((i 0).val / 512) (j0 + (i 1).val / 4) = tileAt t (j0 + (y 1).val / 4) (lane_lt j0 h0' (y 1)) := by
    apply Fin.ext; simp only [ptN, tileAt]; rw [h0, h1]; omega
  have er : row (i 0).val = y 0 := by apply Fin.ext; simp only [row]; rw [h0]; show _ = (y 0).val; omega
  have el : (⟨(i 1).val % 4, Nat.mod_lt _ (by decide)⟩ : Fin 4) = hd (y 1) := by apply Fin.ext; simp only [hd]; rw [h1]
  unfold scalesArr
  rw [e, er, el, ← hX (y 0) (y 1) (by rw [ht]; omega), ← eq_ix2]

section
variable {m}
variable {c : Dev nD} {after : (w' : Fin cfg0.W) → Fin cfg0.N → (cfg0.win w').block.Idx → Elt F (cfg0.win w').elt}
  (hl : ∀ (w : Fin cfg0.W) (u : Fin cfg0.N), (cfg0.win w).flush u = true → (rdat m c).Leaves w u (after w u))
include hl
/-- The array of window 6 is the branch's codes. -/
theorem final6 : ((rdat m c).withAfter after).arrAt 6 cfg0.N = codesArr (rAt m c) 0 := by
  refine Pipeline.Dat.arrAt_eq_of_covers ((rdat m c).withAfter after) 6 _ (by decide +kernel) fun t hf y => ?_
  have hX : Rl m c 6 t (after 6 t) := (dats m 0 c).toRRel_leaves rfl (hl 6 t hf)
  have hf' := (flush0_6 t).mp hf
  have he0 := Pipeline.Window.rect_emb_val (cfg0.win 6) t y 0
  have he1 := Pipeline.Window.rect_emb_val (cfg0.win 6) t y 1
  rw [(idx_6 t).1] at he0
  rw [(idx_6 t).2] at he1
  refine (congrFun hX y).trans (codes_point (rAt m c) 0 (upTo 31 t) t y _ (min (t.val % 96) 31) he0 he1 ?_)
  simp only [upTo]; omega
/-- The array of window 8 is the branch's codes. -/
theorem final8 : ((rdat m c).withAfter after).arrAt 8 cfg0.N = codesArr (rAt m c) 32 := by
  refine Pipeline.Dat.arrAt_eq_of_covers ((rdat m c).withAfter after) 8 _ (by decide +kernel) fun t hf y => ?_
  have hX : Rl m c 8 t (after 8 t) := (dats m 0 c).toRRel_leaves rfl (hl 8 t hf)
  have hf' := (flush0_8 t).mp hf
  have he0 := Pipeline.Window.rect_emb_val (cfg0.win 8) t y 0
  have he1 := Pipeline.Window.rect_emb_val (cfg0.win 8) t y 1
  rw [(idx_8 t).1] at he0
  rw [(idx_8 t).2] at he1
  refine (congrFun (hX (by omega)) y).trans (codes_point (rAt m c) 32 (upTo 63 t) t y _ (min (t.val % 96 - 32) 31) he0 he1 ?_)
  simp only [upTo]; omega
/-- The array of window 10 is the branch's codes. -/
theorem final10 : ((rdat m c).withAfter after).arrAt 10 cfg0.N = codesArr (vAt m c) 64 := by
  refine Pipeline.Dat.arrAt_eq_of_covers ((rdat m c).withAfter after) 10 _ (by decide +kernel) fun t hf y => ?_
  have hX : Rl m c 10 t (after 10 t) := (dats m 0 c).toRRel_leaves rfl (hl 10 t hf)
  have hf' := (flush0_10 t).mp hf
  have he0 := Pipeline.Window.rect_emb_val (cfg0.win 10) t y 0
  have he1 := Pipeline.Window.rect_emb_val (cfg0.win 10) t y 1
  rw [(idx_10 t).1] at he0
  rw [(idx_10 t).2] at he1
  refine (congrFun (hX (by omega)) y).trans (codes_point (vAt m c) 64 (t) t y _ (t.val % 96 - 64) he0 he1 ?_)
  omega
/-- The array of window 7 is the branch's scales. -/
theorem final7 : ((rdat m c).withAfter after).arrAt 7 cfg0.N = scalesArr (rAt m c) 0 := by
  refine Pipeline.Dat.arrAt_eq_of_covers ((rdat m c).withAfter after) 7 _ (by decide +kernel) fun t hf y => ?_
  have hX : Rl m c 7 t (after 7 t) := (dats m 0 c).toRRel_leaves rfl (hl 7 t hf)
  have hf' := (flush0_7 t).mp hf
  have he0 := Pipeline.Window.rect_emb_val (cfg0.win 7) t y 0
  have he1 := Pipeline.Window.rect_emb_val (cfg0.win 7) t y 1
  rw [(idx_7 t).1] at he0
  rw [(idx_7 t).2] at he1
  exact scales_point (rAt m c) 0 (by decide) t y _ (after 7 t) hX hf' he0 (he1.trans (by rw [Nat.zero_mul, Nat.zero_add]))
/-- The array of window 9 is the branch's scales. -/
theorem final9 : ((rdat m c).withAfter after).arrAt 9 cfg0.N = scalesArr (rAt m c) 32 := by
  refine Pipeline.Dat.arrAt_eq_of_covers ((rdat m c).withAfter after) 9 _ (by decide +kernel) fun t hf y => ?_
  have hX : Rl m c 9 t (after 9 t) := (dats m 0 c).toRRel_leaves rfl (hl 9 t hf)
  have hf' := (flush0_9 t).mp hf
  have he0 := Pipeline.Window.rect_emb_val (cfg0.win 9) t y 0
  have he1 := Pipeline.Window.rect_emb_val (cfg0.win 9) t y 1
  rw [(idx_9 t).1] at he0
  rw [(idx_9 t).2] at he1
  exact scales_point (rAt m c) 32 (by decide) t y _ (after 9 t) hX hf' he0 (he1.trans (by rw [Nat.zero_mul, Nat.zero_add]))
/-- The array of window 11 is the branch's scales. -/
theorem final11 : ((rdat m c).withAfter after).arrAt 11 cfg0.N = scalesArr (vAt m c) 64 := by
  refine Pipeline.Dat.arrAt_eq_of_covers ((rdat m c).withAfter after) 11 _ (by decide +kernel) fun t hf y => ?_
  have hX : Rl m c 11 t (after 11 t) := (dats m 0 c).toRRel_leaves rfl (hl 11 t hf)
  have hf' := (flush0_11 t).mp hf
  have he0 := Pipeline.Window.rect_emb_val (cfg0.win 11) t y 0
  have he1 := Pipeline.Window.rect_emb_val (cfg0.win 11) t y 1
  rw [(idx_11 t).1] at he0
  rw [(idx_11 t).2] at he1
  exact scales_point (vAt m c) 64 (by decide) t y _ (after 11 t) hX hf' he0 (he1.trans (by rw [Nat.zero_mul, Nat.zero_add]))
end

/-- THE RESULTS: after the run the six result arrays hold the codes and scales of the three branches. -/
theorem results (r : PUnit × MemSt nD τ sig (Elt F)) (h : (Pipeline.RDat.FramePost (cfgs 0) (rdat m) (V m)) r) (c : Dev nD) :
    r.2.mem ((c : Thread nD τ).loc main_v23_0) = codesArr (rAt m c) 0
    ∧ r.2.mem ((c : Thread nD τ).loc main_v23_1) = scalesArr (rAt m c) 0
    ∧ r.2.mem ((c : Thread nD τ).loc main_v23_2) = codesArr (rAt m c) 32
    ∧ r.2.mem ((c : Thread nD τ).loc main_v23_3) = scalesArr (rAt m c) 32
    ∧ r.2.mem ((c : Thread nD τ).loc main_v23_4) = codesArr (vAt m c) 64
    ∧ r.2.mem ((c : Thread nD τ).loc main_v23_5) = scalesArr (vAt m c) 64 := by
  obtain ⟨after, hl, ha⟩ := Pipeline.RDat.FramePost.exists_exact h c
  exact ⟨(ha 6).trans (final6 hl), (ha 7).trans (final7 hl), (ha 8).trans (final8 hl), (ha 9).trans (final9 hl), (ha 10).trans (final10 hl), (ha 11).trans (final11 hl)⟩

end Cert.ProjIdeal.Hand

end
-- ==== Proof.ProjRead.lean ====
module

public import proofs.«01_k».proof.Proof.ProjHeads
public import proofs.«01_k».proof.Proof.Quant
public import Idealize.ShloMosaic.Lib.Pointwise

@[expose] public section

set_option maxRecDepth 16384

noncomputable section

namespace Cert.ProjIdeal.Hand

open Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The maximum magnitude of row `r`. -/
def rowMax (y : FVec F S512x128 .f32) (r : Fin 512) : F .f32 :=
  reduceFold reduces_S512x128_S512 FloatOps.maximumf (FloatOps.ofBits .f32 0xFF800000#32) (absf y) (ix1 r)

/-- The exponent field of row `r`. -/
theorem bitsOf_apply (y : FVec F S512x128 .f32) (r : Fin 512) : bitsOf y (ix2 r (0 : Fin 1)) = Cert.Quant.bits (rowMax y r) := by
  unfold bitsOf
  pointwise
  unfold Cert.Quant.bits Cert.Quant.expo Cert.Quant.over Cert.Quant.field rowMax
  rfl

/-- The scale of row `r`. -/
theorem rowScale_apply (y : FVec F S512x128 .f32) (r : Fin 512) : rowScale y r = Cert.Quant.scale (rowMax y r) := by
  unfold rowScale
  pointwise
  rw [bitsOf_apply]
  rfl

/-- The code at row `r`, lane `l`. -/
theorem codesOf_apply (y : FVec F S512x128 .f32) (r : Fin 512) (l : Fin 128) :
    codesOf y (ix2 r l) = Cert.Quant.code (y (ix2 r l)) (Cert.Quant.inv (rowMax y r)) := by
  unfold codesOf
  pointwise
  rw [bitsOf_apply]
  rfl

/-- A head's columns of the product, scaled, at an index. -/
theorem scaled_apply (o : ℕ) (hs : S512x512.Slices ![0, o] S512x128) (x0 : Vec F S512x7168 .fp8e4m3) (x1 : Vec F S512x128 .f32) (x2 : Vec F S7168x512 .fp8e4m3) (w : Vec F S1x128 .f32)
    (r : Fin 512) (e : Fin 128) (n : Fin 512) (hn : n.val = o + e.val) :
    scaled o hs x0 x1 x2 w (ix2 r e) = FloatOps.mulf (FloatOps.mulf (k0_pay1 (View.ld x0 rx) (View.ld x2 rv) (ix2 r n)) (x1 (ix2 r e))) (w (ix2 (0 : Fin 1) e)) := by
  unfold scaled
  pointwise
  rw [show (⟨o + e.val, hn ▸ n.isLt⟩ : Fin 512) = n from Fin.ext hn.symm]

/-- The half-turned head at an index. -/
theorem roped_apply (y : FVec F S512x128 .f32) (x4 x5 : Vec F S512x128 .f32) (r : Fin 512) (e e' : Fin 128) (h : e'.val = (e.val + 64) % 128) :
    roped y x4 x5 (ix2 r e) = FloatOps.addf (FloatOps.mulf (y (ix2 r e)) (x4 (ix2 r e))) (FloatOps.mulf (y (ix2 r e')) (x5 (ix2 r e))) := by
  unfold roped
  pointwise
  rw [show (⟨(e.val + 128 - 64) % 128, Nat.mod_lt _ (by decide)⟩ : Fin 128) = e' from Fin.ext (by simp only; omega)]

/-- The block's product over the extended reals. -/
theorem prod_apply (x0 : Vec Ideal S512x7168 .fp8e4m3) (x2 : Vec Ideal S7168x512 .fp8e4m3) (r j : Fin 512) :
    k0_pay1 (View.ld x0 rx) (View.ld x2 rv) (ix2 r j) = Cert.Quant.dot (fun k => x0 (ix2 r k)) fun k => x2 (ix2 k j) := by
  unfold k0_pay1
  pointwise

  rfl

end Cert.ProjIdeal.Hand

end
-- ==== Proof.ProjHost.lean ====
module

public import proofs.«01_k».proof.Proof.ProjArr
public import proofs.«01_k».proof.Proof.ProjRead
public import proofs.«01_k».proof.Proof.Spec
public import Idealize.ShloMosaic.Lib.Claim
public import Idealize.ShloMosaic.Lib.Pointwise
public import Idealize.ShloMosaic.Lib.Pipeline.ValueKit.Geometry
public import Idealize.ShloMosaic.Lib.Pipeline.ValueKit.Point

@[expose] public section

set_option maxRecDepth 16384

noncomputable section

namespace Cert.ProjIdeal.Hand

open Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The input blocks, read off the arguments -/

/-- The activations' codes at grid point `t`. -/
theorem blk0 (c : Dev nD) (t : Fin cfg0.N) (r : Fin 512) (k : Fin 7168) (R : Fin 3072) (hR : R.val = t.val / 96 * 512 + r.val) :
    iblk m c 0 t (ix2 r k) = m ((c : Thread nD τ).loc main_arg0) (ix2 R k) := by
  have h := idx_0 t
  rw [← V_main_arg0 m c]
  blk_ext [iblk, V, h.1, h.2]

/-- Their scales. -/
theorem blk1 (c : Dev nD) (t : Fin cfg0.N) (r : Fin 512) (e : Fin 128) (R : Fin 3072) (hR : R.val = t.val / 96 * 512 + r.val) :
    iblk m c 1 t (ix2 r e) = m ((c : Thread nD τ).loc main_arg1) (ix2 R e) := by
  have h := idx_1 t
  rw [← V_main_arg1 m c]
  blk_ext [iblk, V, h.1, h.2]

/-- The weights' codes. -/
theorem blk2 (c : Dev nD) (t : Fin cfg0.N) (k : Fin 7168) (n : Fin 512) (j : Fin 49152) (hj : j.val = t.val % 96 * 512 + n.val) :
    iblk m c 2 t (ix2 k n) = m ((c : Thread nD τ).loc main_arg2) (ix2 k j) := by
  have h := idx_2 t
  rw [← V_main_arg2 m c]
  blk_ext [iblk, V, h.1, h.2]

/-- The weights' scales. -/
theorem blk3 (c : Dev nD) (t : Fin cfg0.N) (n : Fin 512) (j : Fin 49152) (hj : j.val = t.val % 96 * 512 + n.val) :
    iblk m c 3 t (ix2 (0 : Fin 1) n) = m ((c : Thread nD τ).loc main_arg3) (ix1 j) := by
  have h := idx_3 t
  have e : V m c main_v22 (ix2 (0 : Fin 1) j) = m ((c : Thread nD τ).loc main_arg3) (ix1 j) := by
    entry_read
    pointwise
  rw [← e]
  blk_ext [iblk, V, h.1, h.2]

/-- Token `R`'s position. -/
abbrev posOf (c : Dev nD) (R : Fin 3072) : BitVec 32 := Cert.Quant.pos (m ((c : Thread nD τ).loc main_arg4)) R

/-- The cosines, both halves. -/
theorem host_cos (c : Dev nD) (R : Fin 3072) (l : Fin 128) (e : Fin 64) (hl : l.val = e.val ∨ l.val = 64 + e.val) :
    V m c main_v19 (ix2 R l) = Cert.Quant.cosOf (F := F) (posOf m c R) e := by
  rcases hl with hl | hl
  · rw [show l = (⟨e.val, by omega⟩ : Fin 128) from Fin.ext hl]
    entry_read
    pointwise
    rfl
  · rw [show l = (⟨64 + e.val, by omega⟩ : Fin 128) from Fin.ext hl]
    entry_read
    pointwise
    rfl
/-- The sines, the lower half of the lanes. -/
theorem host_sin_lo (c : Dev nD) (R : Fin 3072) (e : Fin 64) :
    V m c main_v21 (ix2 R (⟨e.val, by omega⟩ : Fin 128)) = FloatOps.hostNegf (Cert.Quant.sinOf (F := F) (posOf m c R) e) := by
  entry_read
  pointwise
  rfl
/-- The sines, the upper half. -/
theorem host_sin_hi (c : Dev nD) (R : Fin 3072) (e : Fin 64) :
    V m c main_v21 (ix2 R (⟨64 + e.val, by omega⟩ : Fin 128)) = Cert.Quant.sinOf (F := F) (posOf m c R) e := by
  entry_read
  pointwise
  rfl

/-- The cosines at grid point `t`. -/
theorem blk4 (c : Dev nD) (t : Fin cfg0.N) (r : Fin 512) (e : Fin 128) (R : Fin 3072) (hR : R.val = t.val / 96 * 512 + r.val) :
    iblk m c 4 t (ix2 r e) = V m c main_v19 (ix2 R e) := by
  have h := idx_4 t
  blk_ext [iblk, h.1, h.2]

/-- The sines. -/
theorem blk5 (c : Dev nD) (t : Fin cfg0.N) (r : Fin 512) (e : Fin 128) (R : Fin 3072) (hR : R.val = t.val / 96 * 512 + r.val) :
    iblk m c 5 t (ix2 r e) = V m c main_v21 (ix2 R e) := by
  have h := idx_5 t
  blk_ext [iblk, h.1, h.2]

/-! ## The heads at an index -/

/-- A plain head of a tile. -/
theorem hV_apply (x0 : Vec F S512x7168 .fp8e4m3) (x1 : Vec F S512x128 .f32) (x2 : Vec F S7168x512 .fp8e4m3) (x3 : Vec F S1x512 .f32) (k : Fin 4)
    (r : Fin 512) (e : Fin 128) (n : Fin 512) (hn : n.val = 128 * k.val + e.val) :
    hV x0 x1 x2 x3 k (ix2 r e) = FloatOps.mulf (FloatOps.mulf (k0_pay1 (View.ld x0 rx) (View.ld x2 rv) (ix2 r n)) (x1 (ix2 r e))) (x3 (ix2 (0 : Fin 1) n)) := by
  match k, hn with
  | ⟨0, _⟩, hn =>
    refine (scaled_apply 0 slices_S512x512_o0_0_S512x128 x0 x1 x2 _ r e n (by simpa using hn)).trans (congrArg (FloatOps.mulf _) ?_)
    rw [show n = (⟨e.val, by omega⟩ : Fin 512) from Fin.ext (by simpa using hn)]
    pointwise
  | ⟨1, _⟩, hn =>
    refine (scaled_apply 128 slices_S512x512_o0_128_S512x128 x0 x1 x2 _ r e n (by simpa using hn)).trans (congrArg (FloatOps.mulf _) ?_)
    rw [show n = (⟨128 + e.val, by omega⟩ : Fin 512) from Fin.ext (by simpa using hn)]
    pointwise
  | ⟨2, _⟩, hn =>
    refine (scaled_apply 256 slices_S512x512_o0_256_S512x128 x0 x1 x2 _ r e n (by simpa using hn)).trans (congrArg (FloatOps.mulf _) ?_)
    rw [show n = (⟨256 + e.val, by omega⟩ : Fin 512) from Fin.ext (by simpa using hn)]
    pointwise
  | ⟨3, _⟩, hn =>
    refine (scaled_apply 384 slices_S512x512_o0_384_S512x128 x0 x1 x2 _ r e n (by simpa using hn)).trans (congrArg (FloatOps.mulf _) ?_)
    rw [show n = (⟨384 + e.val, by omega⟩ : Fin 512) from Fin.ext (by simpa using hn)]
    pointwise

/-- A turned head of a tile is the plain one turned. -/
theorem hR_eq (x0 : Vec F S512x7168 .fp8e4m3) (x1 : Vec F S512x128 .f32) (x2 : Vec F S7168x512 .fp8e4m3) (x3 : Vec F S1x512 .f32) (x4 x5 : Vec F S512x128 .f32) (k : Fin 4) :
    hR x0 x1 x2 x3 x4 x5 k = roped (hV x0 x1 x2 x3 k) x4 x5 := by
  match k with
  | ⟨0, _⟩ => rfl
  | ⟨1, _⟩ => rfl
  | ⟨2, _⟩ => rfl
  | ⟨3, _⟩ => rfl

/-- A row's maximum over the extended reals. -/
theorem rowMax_ideal (y : FVec Ideal S512x128 .f32) (r : Fin 512) : rowMax y r = Cert.Quant.top fun e => y (ix2 r e) := by
  unfold rowMax Cert.Quant.top
  change multiReduction .maximumf [1] S512 (absf y) 0xFF800000#32 reduces_S512x128_S512 (.inl rfl) rfl (ix1 r) = _
  pointwise

end Cert.ProjIdeal.Hand

end
-- ==== Proof.ProjVal.lean ====
module

public import proofs.«01_k».proof.Proof.ProjHost

@[expose] public section

set_option maxRecDepth 16384

noncomputable section

namespace Cert.ProjIdeal.Hand

open Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt Ideal) ℓ) (ρ : Dev nD → PrngReg)

/-- The arguments. -/
abbrev aX (c : Dev nD) : Cert.Quant.SX.Idx → EReal := m ((c : Thread nD τ).loc main_arg0)
abbrev aXs (c : Dev nD) : Cert.Quant.SXs.Idx → EReal := m ((c : Thread nD τ).loc main_arg1)
abbrev aW (c : Dev nD) : Cert.Quant.SW.Idx → EReal := m ((c : Thread nD τ).loc main_arg2)
abbrev aWs (c : Dev nD) : Cert.Quant.SWs.Idx → EReal := m ((c : Thread nD τ).loc main_arg3)
abbrev aP (c : Dev nD) : Cert.Quant.SP.Idx → BitVec 32 := m ((c : Thread nD τ).loc main_arg4)

/-- A plain head at grid point `t`, in the arguments. -/
theorem vAt_apply (c : Dev nD) (t : Fin cfg0.N) (k : Fin 4) (r : Fin 512) (e : Fin 128) (R : Fin 3072) (n : Fin 384)
    (hR : R.val = t.val / 96 * 512 + r.val) (hn : n.val = 4 * (t.val % 96) + k.val) :
    vAt m c t k (ix2 r e) = Cert.Quant.proj (aX m c) (aXs m c) (aW m c) (aWs m c) R n e := by
  unfold vAt
  have hj : (Cert.Quant.col n e).val = t.val % 96 * 512 + (128 * k.val + e.val) := by show 128 * n.val + e.val = _; omega
  rw [hV_apply _ _ _ _ k r e ⟨128 * k.val + e.val, by omega⟩ rfl, prod_apply, blk1 m c t r e R hR, blk3 m c t _ (Cert.Quant.col n e) hj,
    show (fun x => iblk m c 0 t (ix2 r x)) = fun x => aX m c (ix2 R x) from funext fun x => blk0 m c t r x R hR,
    show (fun x => iblk m c 2 t (ix2 x (⟨128 * k.val + e.val, by omega⟩ : Fin 512))) = fun x => aW m c (ix2 x (Cert.Quant.col n e)) from
      funext fun x => blk2 m c t x _ (Cert.Quant.col n e) hj]
  rfl

/-- A turned head at grid point `t`. -/
theorem rAt_apply (c : Dev nD) (t : Fin cfg0.N) (k : Fin 4) (r : Fin 512) (e : Fin 128) (R : Fin 3072) (n : Fin 384)
    (hR : R.val = t.val / 96 * 512 + r.val) (hn : n.val = 4 * (t.val % 96) + k.val) :
    rAt m c t k (ix2 r e) = Cert.Quant.rot (Cert.Quant.proj (aX m c) (aXs m c) (aW m c) (aWs m c) R n) (Cert.Quant.pos (aP m c) R) e := by
  unfold rAt
  rw [hR_eq]
  change roped (vAt m c t k) _ _ _ = _
  unfold Cert.Quant.rot
  by_cases h : e.val < 64
  · rw [dif_pos h, roped_apply _ _ _ r e ⟨64 + e.val, by omega⟩ (by simp only; omega), vAt_apply m c t k r _ R n hR hn, vAt_apply m c t k r _ R n hR hn,
      blk4 m c t r e R hR, blk5 m c t r e R hR, host_cos m c R e ⟨e.val, h⟩ (.inl rfl), host_sin_lo m c R ⟨e.val, h⟩]
    show (_ + _ * -_ : EReal) = _ - _
    rw [mul_neg, ← sub_eq_add_neg]
    rfl
  · have hs : V m c main_v21 (ix2 R e) = Cert.Quant.sinOf (F := Ideal) (posOf m c R) ⟨e.val - 64, by omega⟩ := by
      have hs := host_sin_hi m c R ⟨e.val - 64, by omega⟩
      rwa [show (⟨64 + (⟨e.val - 64, by omega⟩ : Fin 64).val, by simp only; omega⟩ : Fin 128) = e from Fin.ext (by simp only; omega)] at hs
    rw [dif_neg h, roped_apply _ _ _ r e ⟨e.val - 64, by omega⟩ (by simp only; omega), vAt_apply m c t k r _ R n hR hn, vAt_apply m c t k r _ R n hR hn,
      blk4 m c t r e R hR, blk5 m c t r e R hR, host_cos m c R e ⟨e.val - 64, by omega⟩ (.inr (by simp only; omega)), hs]
    rfl

/-- An array of codes whose heads are those of `zs`. -/
theorem codesArr_eq (ys : Fin cfg0.N → Fin 4 → FVec Ideal S512x128 .f32) (j0 : ℕ) (hj0 : j0 ≤ 64) (zs : Fin 3072 → Fin 128 → Fin 128 → EReal)
    (h : ∀ (t : Fin cfg0.N) (k : Fin 4) (r : Fin 512) (R : Fin 3072) (n : Fin 128), R.val = t.val / 96 * 512 + r.val → 4 * j0 + n.val = 4 * (t.val % 96) + k.val →
      ∀ e, ys t k (ix2 r e) = zs R n e) : codesArr ys j0 = Cert.Quant.outCodes zs := by
  funext i
  have h0 : (i 0).val < 3072 := (i 0).isLt
  have h1 : (i 1).val < 16384 := (i 1).isLt
  unfold codesArr Cert.Quant.outCodes
  rw [codesOf_apply, rowMax_ideal]
  have e : ∀ l, ys (ptN ((i 0).val / 512) (j0 + (i 1).val / 512)) (head (i 1).val) (ix2 (row (i 0).val) l) = zs (i 0) ⟨(i 1).val / 128, by omega⟩ l := by
    refine h _ _ _ _ _ ?_ ?_
    · simp only [ptN]; omega
    · simp only [ptN]; omega
  rw [e, show (fun l => ys (ptN ((i 0).val / 512) (j0 + (i 1).val / 512)) (head (i 1).val) (ix2 (row (i 0).val) l)) = _ from funext e]

/-- And an array of their scales. -/
theorem scalesArr_eq (ys : Fin cfg0.N → Fin 4 → FVec Ideal S512x128 .f32) (j0 : ℕ) (hj0 : j0 ≤ 64) (zs : Fin 3072 → Fin 128 → Fin 128 → EReal)
    (h : ∀ (t : Fin cfg0.N) (k : Fin 4) (r : Fin 512) (R : Fin 3072) (n : Fin 128), R.val = t.val / 96 * 512 + r.val → 4 * j0 + n.val = 4 * (t.val % 96) + k.val →
      ∀ e, ys t k (ix2 r e) = zs R n e) : scalesArr ys j0 = Cert.Quant.outScales zs := by
  funext i
  have h0 : (i 0).val < 3072 := (i 0).isLt
  have h1 : (i 1).val < 128 := (i 1).isLt
  unfold scalesArr Cert.Quant.outScales
  rw [rowScale_apply, rowMax_ideal]
  have e : ∀ l, ys (ptN ((i 0).val / 512) (j0 + (i 1).val / 4)) ⟨(i 1).val % 4, Nat.mod_lt _ (by decide)⟩ (ix2 (row (i 0).val) l) = zs (i 0) (i 1) l := by
    refine h _ _ _ _ _ ?_ ?_
    · simp only [ptN]; omega
    · simp only [ptN]; omega
  rw [show (fun l => ys (ptN ((i 0).val / 512) (j0 + (i 1).val / 4)) ⟨(i 1).val % 4, Nat.mod_lt _ (by decide)⟩ (ix2 (row (i 0).val) l)) = _ from funext e]

/-- The turned heads of a branch with first tile `j0`. -/
theorem rAt_turned (c : Dev nD) (j0 : ℕ) (h0 : 4 * j0 ≤ 256) (t : Fin cfg0.N) (k : Fin 4) (r : Fin 512) (R : Fin 3072) (n : Fin 128)
    (hR : R.val = t.val / 96 * 512 + r.val) (hn : 4 * j0 + n.val = 4 * (t.val % 96) + k.val) (e : Fin 128) :
    rAt m c t k (ix2 r e) = Cert.Quant.turned (aX m c) (aXs m c) (aW m c) (aWs m c) (aP m c) (4 * j0) h0 R n e :=
  rAt_apply m c t k r e R ⟨4 * j0 + n.val, by omega⟩ hR hn

/-- The plain heads. -/
theorem vAt_plain (c : Dev nD) (t : Fin cfg0.N) (k : Fin 4) (r : Fin 512) (R : Fin 3072) (n : Fin 128)
    (hR : R.val = t.val / 96 * 512 + r.val) (hn : 4 * 64 + n.val = 4 * (t.val % 96) + k.val) (e : Fin 128) :
    vAt m c t k (ix2 r e) = Cert.Quant.plain (aX m c) (aXs m c) (aW m c) (aWs m c) R n e :=
  vAt_apply m c t k r e R ⟨256 + n.val, by omega⟩ hR hn

/-- THE KERNEL'S VALUES over the extended reals: codes and scales of the turned queries, the turned keys and the values, and the arguments unchanged. -/
theorem values : θ_run defs (onTc (τ := τ) (main (F := Ideal))) ⟨m, fun _ => 0, ρ⟩ (fun r => ∀ c : Dev nD,
      r.2.mem ((c.tc : Thread nD τ).loc main_v23_0) = Cert.Quant.outCodes (Cert.Quant.turned (aX m c) (aXs m c) (aW m c) (aWs m c) (aP m c) 0 (by decide))
      ∧ r.2.mem ((c.tc : Thread nD τ).loc main_v23_1) = Cert.Quant.outScales (Cert.Quant.turned (aX m c) (aXs m c) (aW m c) (aWs m c) (aP m c) 0 (by decide))
      ∧ r.2.mem ((c.tc : Thread nD τ).loc main_v23_2) = Cert.Quant.outCodes (Cert.Quant.turned (aX m c) (aXs m c) (aW m c) (aWs m c) (aP m c) 128 (by decide))
      ∧ r.2.mem ((c.tc : Thread nD τ).loc main_v23_3) = Cert.Quant.outScales (Cert.Quant.turned (aX m c) (aXs m c) (aW m c) (aWs m c) (aP m c) 128 (by decide))
      ∧ r.2.mem ((c.tc : Thread nD τ).loc main_v23_4) = Cert.Quant.outCodes (Cert.Quant.plain (aX m c) (aXs m c) (aW m c) (aWs m c))
      ∧ r.2.mem ((c.tc : Thread nD τ).loc main_v23_5) = Cert.Quant.outScales (Cert.Quant.plain (aX m c) (aXs m c) (aW m c) (aWs m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (θ_run_and (run_main m ρ) (unchanged m ρ))
  obtain ⟨r0, r1, r2, r3, r4, r5⟩ := results m r h.1 c
  obtain ⟨u0, u1, u2, u3, u4⟩ := h.2 c
  exact ⟨r0.trans (codesArr_eq _ 0 (by decide) _ (rAt_turned m c 0 (by decide))), r1.trans (scalesArr_eq _ 0 (by decide) _ (rAt_turned m c 0 (by decide))),
    r2.trans (codesArr_eq _ 32 (by decide) _ (rAt_turned m c 32 (by decide))), r3.trans (scalesArr_eq _ 32 (by decide) _ (rAt_turned m c 32 (by decide))),
    r4.trans (codesArr_eq _ 64 (by decide) _ (vAt_plain m c)), r5.trans (scalesArr_eq _ 64 (by decide) _ (vAt_plain m c)), u0, u1, u2, u3, u4⟩

end Cert.ProjIdeal.Hand

end
-- ==== Proof.RefQuant.lean ====
module

public import proofs.«01_k».proof.Proof.Gen.ProjRefIdeal.Frame
public import proofs.«01_k».proof.Proof.Quant
public import Idealize.ShloMosaic.Lib.Pointwise

@[expose] public section

set_option maxRecDepth 16384

noncomputable section

namespace Cert.ProjRefIdeal.Hand

open Cert.ProjRefIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The maximum magnitude of token `r`, head `n`. -/
def rowMax (y : FVec F S3072x128x128 .f32) (r : Fin 3072) (n : Fin 128) : F .f32 :=
  reduceFold reduces_S3072x128x128_S3072x128 FloatOps.maximumf (FloatOps.ofBits .f32 0xFF800000#32) (absf y) (ix2 r n)

/-- The candidates of each token and head. -/
def cands (y : FVec F S3072x128x128 .f32) : FVec F S3072x128x252 .f32 := fun i => Cert.Quant.cand (Cert.Quant.over (rowMax y (i 0) (i 1))) (i 2)

/-- The maximum over 448. -/
theorem over_apply (y : FVec F S3072x128x128 .f32) (r : Fin 3072) (n : Fin 128) :
    k0_pay20 y (ix3 r n (0 : Fin 1)) = Cert.Quant.over (rowMax y r n) := by
  unfold k0_pay20
  pointwise
  rfl

/-- The least candidate. -/
theorem least_eq (y : FVec F S3072x128x128 .f32) (r : Fin 3072) (n : Fin 128) :
    k0_pay21 y (ix3 r n (0 : Fin 1)) = reduceFold reduces_S3072x128x252_S3072x128 FloatOps.minimumf (FloatOps.ofBits .f32 0x7F800000#32) (cands y) (ix2 r n) := by
  unfold k0_pay21
  pointwise
  refine congrArg (fun z => reduceFold reduces_S3072x128x252_S3072x128 FloatOps.minimumf (FloatOps.ofBits .f32 2139095040#32) z (ix2 r n)) ?_
  funext i
  obtain ⟨a, b, c, rfl⟩ : ∃ a b c, i = ix3 a b c := ⟨i 0, i 1, i 2, eq_ix3 i⟩
  unfold cands
  pointwise
  rw [over_apply]
  rfl

/-- The scale. -/
def scaleOf (y : FVec F S3072x128x128 .f32) : FVec F S3072x128x1 .f32 := k0_pay1 (k0_pay20 y) (k0_pay21 y)

/-- The codes. -/
def codesOf (y : FVec F S3072x128x128 .f32) : FVec F S3072x128x128 .fp8e4m3 := k0_pay2 y (k0_pay20 y) (k0_pay21 y)

/-- The scale at an index. -/
theorem scaleOf_apply (y : FVec F S3072x128x128 .f32) (r : Fin 3072) (n : Fin 128) : scaleOf y (ix3 r n (0 : Fin 1))
    = Cert.Quant.refScale (Cert.Quant.over (rowMax y r n)) (reduceFold reduces_S3072x128x252_S3072x128 FloatOps.minimumf (FloatOps.ofBits .f32 0x7F800000#32) (cands y) (ix2 r n)) := by
  unfold scaleOf k0_pay1
  pointwise
  rw [over_apply, least_eq]
  rfl

/-- The codes at an index. -/
theorem codesOf_apply (y : FVec F S3072x128x128 .f32) (r : Fin 3072) (n l : Fin 128) : codesOf y (ix3 r n l)
    = Cert.Quant.code (y (ix3 r n l)) (Cert.Quant.refInv (scaleOf y (ix3 r n (0 : Fin 1)))) := by
  unfold codesOf k0_pay2 scaleOf
  pointwise
  rfl

/-- The first rotated group is quantised by the same operations. -/
theorem pay14_eq (y : FVec F S3072x128x128 .f32) : k0_pay14 y = scaleOf y := rfl
theorem pay15_eq (y : FVec F S3072x128x128 .f32) : k0_pay15 y = codesOf y := rfl
/-- So is the second. -/
theorem pay18_eq (a b : FVec F S3072x128x64 .f32) : k0_pay18 (k0_pay16 a b) k0_pay17 (Scalar.ofBits .f32 0x42FA0000#32) = scaleOf (k0_pay13 a b) := rfl
theorem pay19_eq (a b : FVec F S3072x128x64 .f32) : k0_pay19 (k0_pay13 a b) (k0_pay16 a b) k0_pay17 (Scalar.ofBits .f32 0x42FA0000#32) = codesOf (k0_pay13 a b) := rfl

end Cert.ProjRefIdeal.Hand

end
-- ==== Proof.RefHeads.lean ====
module

public import proofs.«01_k».proof.Proof.RefQuant

@[expose] public section

set_option maxRecDepth 16384

noncomputable section

namespace Cert.ProjRefIdeal.Hand

open Cert.ProjRefIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The product, before the scales. -/
def prod (x0 : Vec F S3072x7168 .fp8e4m3) (x2 : Vec F S7168x49152 .fp8e4m3) : FVec F S3072x49152 .f32 :=
  matmul dot_S3072x7168_S7168x49152_S3072x49152_1_0_0_1_n_n none x0 x2 (constant S3072x49152 .f32 0x00000000#32)

/-- The scaled product at token `r`, head `n`, lane `e`. -/
theorem pay5_apply (x0 : Vec F S3072x7168 .fp8e4m3) (x2 : Vec F S7168x49152 .fp8e4m3) (x1 : Vec F S3072x128 .f32) (x3 : Vec F S384x128 .f32) (r : Fin 3072) (n : Fin 384) (e : Fin 128) (j : Fin 49152) (hj : j.val = 128 * n.val + e.val) :
    k0_pay5 x0 x2 x1 x3 (ix3 r n e) = FloatOps.mulf (FloatOps.mulf (prod x0 x2 (ix2 r j)) (x1 (ix2 r e))) (x3 (ix2 n e)) := by
  unfold k0_pay5 prod
  generalize matmul dot_S3072x7168_S7168x49152_S3072x49152_1_0_0_1_n_n none x0 x2 (constant S3072x49152 .f32 0x00000000#32) = p
  pointwise
  rw [show (⟨n.val * 128 + e.val, by omega⟩ : Fin 49152) = j from Fin.ext (by simp only; omega)]

/-- The product over the extended reals. -/
theorem prod_apply (x0 : Vec Ideal S3072x7168 .fp8e4m3) (x2 : Vec Ideal S7168x49152 .fp8e4m3) (r : Fin 3072) (j : Fin 49152) :
    prod x0 x2 (ix2 r j) = Cert.Quant.dot (fun k => x0 (ix2 r k)) fun k => x2 (ix2 k j) := by
  unfold prod
  pointwise

  rfl

/-- The third group is the last third of the heads. -/
theorem pay7_apply (x0 : Vec F S3072x7168 .fp8e4m3) (x2 : Vec F S7168x49152 .fp8e4m3) (x1 : Vec F S3072x128 .f32) (x3 : Vec F S384x128 .f32) (r : Fin 3072) (n : Fin 128) (e : Fin 128) :
    k0_pay7 x0 x2 x1 x3 (ix3 r n e) = k0_pay5 x0 x2 x1 x3 (ix3 r ⟨256 + n.val, by omega⟩ e) := by
  unfold k0_pay7
  generalize k0_pay5 x0 x2 x1 x3 = p
  pointwise

/-- The first group, rotated: the lower half of the lanes. -/
theorem pay8_lo (c s : Vec F S3072x64 .f32) (x0 : Vec F S3072x7168 .fp8e4m3) (x2 : Vec F S7168x49152 .fp8e4m3) (x1 : Vec F S3072x128 .f32) (x3 : Vec F S384x128 .f32) (r : Fin 3072) (n : Fin 128) (e : Fin 64) :
    (k0_pay8 c s x0 x2 x1 x3) (ix3 r n (⟨e.val, by omega⟩ : Fin 128)) = FloatOps.subf (FloatOps.mulf (k0_pay5 x0 x2 x1 x3 (ix3 r ⟨n.val, by omega⟩ ⟨e.val, by omega⟩)) (c (ix2 r e))) (FloatOps.mulf (k0_pay5 x0 x2 x1 x3 (ix3 r ⟨n.val, by omega⟩ ⟨64 + e.val, by omega⟩)) (s (ix2 r e))) := by
  unfold k0_pay8 k0_pay3 k0_pay4
  generalize k0_pay5 x0 x2 x1 x3 = p
  pointwise

/-- The first group, rotated: the upper half of the lanes. -/
theorem pay8_hi (c s : Vec F S3072x64 .f32) (x0 : Vec F S3072x7168 .fp8e4m3) (x2 : Vec F S7168x49152 .fp8e4m3) (x1 : Vec F S3072x128 .f32) (x3 : Vec F S384x128 .f32) (r : Fin 3072) (n : Fin 128) (e : Fin 64) :
    (k0_pay8 c s x0 x2 x1 x3) (ix3 r n (⟨64 + e.val, by omega⟩ : Fin 128)) = FloatOps.addf (FloatOps.mulf (k0_pay5 x0 x2 x1 x3 (ix3 r ⟨n.val, by omega⟩ ⟨64 + e.val, by omega⟩)) (c (ix2 r e))) (FloatOps.mulf (k0_pay5 x0 x2 x1 x3 (ix3 r ⟨n.val, by omega⟩ ⟨e.val, by omega⟩)) (s (ix2 r e))) := by
  unfold k0_pay8 k0_pay3 k0_pay4
  generalize k0_pay5 x0 x2 x1 x3 = p
  pointwise

/-- The second group, rotated: the lower half of the lanes. -/
theorem pay13_lo (c s : Vec F S3072x64 .f32) (x0 : Vec F S3072x7168 .fp8e4m3) (x2 : Vec F S7168x49152 .fp8e4m3) (x1 : Vec F S3072x128 .f32) (x3 : Vec F S384x128 .f32) (r : Fin 3072) (n : Fin 128) (e : Fin 64) :
    (k0_pay13 (k0_pay11 c s x0 x2 x1 x3) (k0_pay12 c s x0 x2 x1 x3)) (ix3 r n (⟨e.val, by omega⟩ : Fin 128)) = FloatOps.subf (FloatOps.mulf (k0_pay5 x0 x2 x1 x3 (ix3 r ⟨128 + n.val, by omega⟩ ⟨e.val, by omega⟩)) (c (ix2 r e))) (FloatOps.mulf (k0_pay5 x0 x2 x1 x3 (ix3 r ⟨128 + n.val, by omega⟩ ⟨64 + e.val, by omega⟩)) (s (ix2 r e))) := by
  unfold k0_pay13 k0_pay11 k0_pay12 k0_pay9 k0_pay10 k0_pay6 k0_pay3 k0_pay4
  generalize k0_pay5 x0 x2 x1 x3 = p
  pointwise

/-- The second group, rotated: the upper half of the lanes. -/
theorem pay13_hi (c s : Vec F S3072x64 .f32) (x0 : Vec F S3072x7168 .fp8e4m3) (x2 : Vec F S7168x49152 .fp8e4m3) (x1 : Vec F S3072x128 .f32) (x3 : Vec F S384x128 .f32) (r : Fin 3072) (n : Fin 128) (e : Fin 64) :
    (k0_pay13 (k0_pay11 c s x0 x2 x1 x3) (k0_pay12 c s x0 x2 x1 x3)) (ix3 r n (⟨64 + e.val, by omega⟩ : Fin 128)) = FloatOps.addf (FloatOps.mulf (k0_pay5 x0 x2 x1 x3 (ix3 r ⟨128 + n.val, by omega⟩ ⟨64 + e.val, by omega⟩)) (c (ix2 r e))) (FloatOps.mulf (k0_pay5 x0 x2 x1 x3 (ix3 r ⟨128 + n.val, by omega⟩ ⟨e.val, by omega⟩)) (s (ix2 r e))) := by
  unfold k0_pay13 k0_pay11 k0_pay12 k0_pay9 k0_pay10 k0_pay6 k0_pay3 k0_pay4
  generalize k0_pay5 x0 x2 x1 x3 = p
  pointwise

end Cert.ProjRefIdeal.Hand

end
-- ==== Proof.RefVal.lean ====
module

public import proofs.«01_k».proof.Proof.RefHeads
public import proofs.«01_k».proof.Proof.Spec
public import Idealize.ShloMosaic.Lib.Claim
public import Idealize.ShloMosaic.Lib.Pointwise
public import Idealize.ShloMosaic.Lib.Pipeline.ValueKit.Geometry
public import Idealize.ShloMosaic.Lib.Pipeline.ValueKit.Point

@[expose] public section

set_option maxRecDepth 16384

noncomputable section

namespace Cert.ProjRefIdeal.Hand

open Cert.ProjRefIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host's operations around the region -/

/-- The cosines the host hands over. -/
theorem host_cos (c : Dev nD) (R : Fin 3072) (e : Fin 64) :
    V m c main_v18 (ix2 R e) = Cert.Quant.cosOf (F := F) (Cert.Quant.pos (m ((c : Thread nD τ).loc main_arg4)) R) e := by
  change StableHlo.after hostOps0 (fun b => m (c, b)) (Proc.tc.devRef main_v18) (ix2 R e) = _
  after_results
  pointwise
  rfl
/-- The sines. -/
theorem host_sin (c : Dev nD) (R : Fin 3072) (e : Fin 64) :
    V m c main_v19 (ix2 R e) = Cert.Quant.sinOf (F := F) (Cert.Quant.pos (m ((c : Thread nD τ).loc main_arg4)) R) e := by
  change StableHlo.after hostOps0 (fun b => m (c, b)) (Proc.tc.devRef main_v19) (ix2 R e) = _
  after_results
  pointwise
  rfl
/-- The weights' scales, by head. -/
theorem host_ws (c : Dev nD) (n : Fin 384) (e : Fin 128) :
    V m c main_v17 (ix2 n e) = m ((c : Thread nD τ).loc main_arg3) (ix1 (Cert.Quant.col n e)) := by
  change StableHlo.after hostOps0 (fun b => m (c, b)) (Proc.tc.devRef main_v17) (ix2 n e) = _
  after_results
  pointwise
  exact congrArg (fun j => m ((c : Thread nD τ).loc main_arg3) (ix1 j)) (Fin.ext (by show n.val * 128 + e.val = 128 * n.val + e.val; omega))

/-- Result 0 is the region's result 0, reshaped. -/
theorem tail_0 (c : Dev nD) : Pipeline.afterTail₀ cfgs (dats m) 0 (V0 m) [hostOps1] c main_v21
    = shapeCast _ ((dats m 0 c).arrAt 6 (cfgs 0).N) shapeCasts_S3072x128x128_S3072x16384 := by
  change StableHlo.after hostOps1 (Pipeline.withArrays (cfgs 0).spec c (V0 m c) fun w => (dats m 0 c).arrAt w (cfgs 0).N) (Proc.tc.devRef main_v21) = _
  after_results
  exact congrArg (fun z => shapeCast _ z shapeCasts_S3072x128x128_S3072x16384) (Pipeline.withArrays_arr (cfgs 0).spec launch0.win.arr_inj c (V0 m c) (fun w => (dats m 0 c).arrAt w (cfgs 0).N) 6)

/-- Result 1 is the region's result 1, reshaped. -/
theorem tail_1 (c : Dev nD) : Pipeline.afterTail₀ cfgs (dats m) 0 (V0 m) [hostOps1] c main_v22
    = shapeCast _ ((dats m 0 c).arrAt 7 (cfgs 0).N) shapeCasts_S3072x128x1_S3072x128 := by
  change StableHlo.after hostOps1 (Pipeline.withArrays (cfgs 0).spec c (V0 m c) fun w => (dats m 0 c).arrAt w (cfgs 0).N) (Proc.tc.devRef main_v22) = _
  after_results
  exact congrArg (fun z => shapeCast _ z shapeCasts_S3072x128x1_S3072x128) (Pipeline.withArrays_arr (cfgs 0).spec launch0.win.arr_inj c (V0 m c) (fun w => (dats m 0 c).arrAt w (cfgs 0).N) 7)

/-- Result 2 is the region's result 2, reshaped. -/
theorem tail_2 (c : Dev nD) : Pipeline.afterTail₀ cfgs (dats m) 0 (V0 m) [hostOps1] c main_v23
    = shapeCast _ ((dats m 0 c).arrAt 8 (cfgs 0).N) shapeCasts_S3072x128x128_S3072x16384 := by
  change StableHlo.after hostOps1 (Pipeline.withArrays (cfgs 0).spec c (V0 m c) fun w => (dats m 0 c).arrAt w (cfgs 0).N) (Proc.tc.devRef main_v23) = _
  after_results
  exact congrArg (fun z => shapeCast _ z shapeCasts_S3072x128x128_S3072x16384) (Pipeline.withArrays_arr (cfgs 0).spec launch0.win.arr_inj c (V0 m c) (fun w => (dats m 0 c).arrAt w (cfgs 0).N) 8)

/-- Result 3 is the region's result 3, reshaped. -/
theorem tail_3 (c : Dev nD) : Pipeline.afterTail₀ cfgs (dats m) 0 (V0 m) [hostOps1] c main_v24
    = shapeCast _ ((dats m 0 c).arrAt 9 (cfgs 0).N) shapeCasts_S3072x128x1_S3072x128 := by
  change StableHlo.after hostOps1 (Pipeline.withArrays (cfgs 0).spec c (V0 m c) fun w => (dats m 0 c).arrAt w (cfgs 0).N) (Proc.tc.devRef main_v24) = _
  after_results
  exact congrArg (fun z => shapeCast _ z shapeCasts_S3072x128x1_S3072x128) (Pipeline.withArrays_arr (cfgs 0).spec launch0.win.arr_inj c (V0 m c) (fun w => (dats m 0 c).arrAt w (cfgs 0).N) 9)

/-- Result 4 is the region's result 4, reshaped. -/
theorem tail_4 (c : Dev nD) : Pipeline.afterTail₀ cfgs (dats m) 0 (V0 m) [hostOps1] c main_v25
    = shapeCast _ ((dats m 0 c).arrAt 10 (cfgs 0).N) shapeCasts_S3072x128x128_S3072x16384 := by
  change StableHlo.after hostOps1 (Pipeline.withArrays (cfgs 0).spec c (V0 m c) fun w => (dats m 0 c).arrAt w (cfgs 0).N) (Proc.tc.devRef main_v25) = _
  after_results
  exact congrArg (fun z => shapeCast _ z shapeCasts_S3072x128x128_S3072x16384) (Pipeline.withArrays_arr (cfgs 0).spec launch0.win.arr_inj c (V0 m c) (fun w => (dats m 0 c).arrAt w (cfgs 0).N) 10)

/-- Result 5 is the region's result 5, reshaped. -/
theorem tail_5 (c : Dev nD) : Pipeline.afterTail₀ cfgs (dats m) 0 (V0 m) [hostOps1] c main_v26
    = shapeCast _ ((dats m 0 c).arrAt 11 (cfgs 0).N) shapeCasts_S3072x128x1_S3072x128 := by
  change StableHlo.after hostOps1 (Pipeline.withArrays (cfgs 0).spec c (V0 m c) fun w => (dats m 0 c).arrAt w (cfgs 0).N) (Proc.tc.devRef main_v26) = _
  after_results
  exact congrArg (fun z => shapeCast _ z shapeCasts_S3072x128x1_S3072x128) (Pipeline.withArrays_arr (cfgs 0).spec launch0.win.arr_inj c (V0 m c) (fun w => (dats m 0 c).arrAt w (cfgs 0).N) 11)

/-! ## The input blocks are the whole arrays -/

/-- Window 0's block. -/
theorem blk0 (c : Dev nD) (i : Fin 3072) (j : Fin 7168) : iblk m c 0 t0_0 (ix2 i j) = V m c main_arg0 (ix2 i j) := by
  have h : ∀ t : Fin cfg0.N, (cfg0.win 0).index t 0 = 0 ∧ (cfg0.win 0).index t 1 = 0 := by decide +kernel
  blk_ext [iblk, (h t0_0).1, (h t0_0).2]

/-- Window 1's block. -/
theorem blk1 (c : Dev nD) (i : Fin 3072) (j : Fin 128) : iblk m c 1 t0_0 (ix2 i j) = V m c main_arg1 (ix2 i j) := by
  have h : ∀ t : Fin cfg0.N, (cfg0.win 1).index t 0 = 0 ∧ (cfg0.win 1).index t 1 = 0 := by decide +kernel
  blk_ext [iblk, (h t0_0).1, (h t0_0).2]

/-- Window 2's block. -/
theorem blk2 (c : Dev nD) (i : Fin 7168) (j : Fin 49152) : iblk m c 2 t0_0 (ix2 i j) = V m c main_arg2 (ix2 i j) := by
  have h : ∀ t : Fin cfg0.N, (cfg0.win 2).index t 0 = 0 ∧ (cfg0.win 2).index t 1 = 0 := by decide +kernel
  blk_ext [iblk, (h t0_0).1, (h t0_0).2]

/-- Window 3's block. -/
theorem blk3 (c : Dev nD) (i : Fin 384) (j : Fin 128) : iblk m c 3 t0_0 (ix2 i j) = V m c main_v17 (ix2 i j) := by
  have h : ∀ t : Fin cfg0.N, (cfg0.win 3).index t 0 = 0 ∧ (cfg0.win 3).index t 1 = 0 := by decide +kernel
  blk_ext [iblk, (h t0_0).1, (h t0_0).2]

/-- Window 4's block. -/
theorem blk4 (c : Dev nD) (i : Fin 3072) (j : Fin 64) : iblk m c 4 t0_0 (ix2 i j) = V m c main_v18 (ix2 i j) := by
  have h : ∀ t : Fin cfg0.N, (cfg0.win 4).index t 0 = 0 ∧ (cfg0.win 4).index t 1 = 0 := by decide +kernel
  blk_ext [iblk, (h t0_0).1, (h t0_0).2]

/-- Window 5's block. -/
theorem blk5 (c : Dev nD) (i : Fin 3072) (j : Fin 64) : iblk m c 5 t0_0 (ix2 i j) = V m c main_v19 (ix2 i j) := by
  have h : ∀ t : Fin cfg0.N, (cfg0.win 5).index t 0 = 0 ∧ (cfg0.win 5).index t 1 = 0 := by decide +kernel
  blk_ext [iblk, (h t0_0).1, (h t0_0).2]

/-! ## The region's results -/

/-- The three groups of heads, from the blocks. -/
def grpQ (c : Dev nD) : FVec F S3072x128x128 .f32 := k0_pay23 (iblk m c 0 t0_0) (iblk m c 1 t0_0) (iblk m c 2 t0_0) (iblk m c 3 t0_0) (iblk m c 4 t0_0) (iblk m c 5 t0_0)
def grpK (c : Dev nD) : FVec F S3072x128x128 .f32 := k0_pay13 (k0_pay24 (iblk m c 0 t0_0) (iblk m c 1 t0_0) (iblk m c 2 t0_0) (iblk m c 3 t0_0) (iblk m c 4 t0_0) (iblk m c 5 t0_0)) (k0_pay25 (iblk m c 0 t0_0) (iblk m c 1 t0_0) (iblk m c 2 t0_0) (iblk m c 3 t0_0) (iblk m c 4 t0_0) (iblk m c 5 t0_0))
def grpV (c : Dev nD) : FVec F S3072x128x128 .f32 := k0_pay22 (iblk m c 0 t0_0) (iblk m c 1 t0_0) (iblk m c 2 t0_0) (iblk m c 3 t0_0) (iblk m c 4 t0_0) (iblk m c 5 t0_0)

/-- Result 0 of the region. -/
theorem out_6 (c : Dev nD) : (dats m 0 c).arrAt 6 (cfgs 0).N = codesOf (grpQ m c) := by
  refine (dats m 0 c).arrAt_eq_of_after_last 6 t0_0 (by decide +kernel) _ fun j => ?_
  blk_simp
  rw [after0_6]
  frame_out
  rfl

/-- Result 1 of the region. -/
theorem out_7 (c : Dev nD) : (dats m 0 c).arrAt 7 (cfgs 0).N = scaleOf (grpQ m c) := by
  refine (dats m 0 c).arrAt_eq_of_after_last 7 t0_0 (by decide +kernel) _ fun j => ?_
  blk_simp
  rw [after0_7]
  frame_out
  rfl

/-- Result 2 of the region. -/
theorem out_8 (c : Dev nD) : (dats m 0 c).arrAt 8 (cfgs 0).N = codesOf (grpK m c) := by
  refine (dats m 0 c).arrAt_eq_of_after_last 8 t0_0 (by decide +kernel) _ fun j => ?_
  blk_simp
  rw [after0_8]
  frame_out
  rfl

/-- Result 3 of the region. -/
theorem out_9 (c : Dev nD) : (dats m 0 c).arrAt 9 (cfgs 0).N = scaleOf (grpK m c) := by
  refine (dats m 0 c).arrAt_eq_of_after_last 9 t0_0 (by decide +kernel) _ fun j => ?_
  blk_simp
  rw [after0_9]
  frame_out
  rfl

/-- Result 4 of the region. -/
theorem out_10 (c : Dev nD) : (dats m 0 c).arrAt 10 (cfgs 0).N = codesOf (grpV m c) := by
  refine (dats m 0 c).arrAt_eq_of_after_last 10 t0_0 (by decide +kernel) _ fun j => ?_
  blk_simp
  rw [after0_10]
  frame_out
  rfl

/-- Result 5 of the region. -/
theorem out_11 (c : Dev nD) : (dats m 0 c).arrAt 11 (cfgs 0).N = scaleOf (grpV m c) := by
  refine (dats m 0 c).arrAt_eq_of_after_last 11 t0_0 (by decide +kernel) _ fun j => ?_
  blk_simp
  rw [after0_11]
  frame_out
  rfl

end Cert.ProjRefIdeal.Hand

end
-- ==== Proof.RefFin.lean ====
module

public import proofs.«01_k».proof.Proof.RefVal

@[expose] public section

set_option maxRecDepth 16384

noncomputable section

namespace Cert.ProjRefIdeal.Hand

open Cert.ProjRefIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt Ideal) ℓ) (ρ : Dev nD → PrngReg)

/-- The arguments. -/
abbrev aX (c : Dev nD) : Cert.Quant.SX.Idx → EReal := m ((c : Thread nD τ).loc main_arg0)
abbrev aXs (c : Dev nD) : Cert.Quant.SXs.Idx → EReal := m ((c : Thread nD τ).loc main_arg1)
abbrev aW (c : Dev nD) : Cert.Quant.SW.Idx → EReal := m ((c : Thread nD τ).loc main_arg2)
abbrev aWs (c : Dev nD) : Cert.Quant.SWs.Idx → EReal := m ((c : Thread nD τ).loc main_arg3)
abbrev aP (c : Dev nD) : Cert.Quant.SP.Idx → BitVec 32 := m ((c : Thread nD τ).loc main_arg4)

/-! ## The quantiser -/

/-- A head's maximum over the extended reals. -/
theorem rowMax_ideal (y : FVec Ideal S3072x128x128 .f32) (r : Fin 3072) (n : Fin 128) : rowMax y r n = Cert.Quant.top fun e => y (ix3 r n e) := by
  unfold rowMax Cert.Quant.top
  change multiReduction .maximumf [2] S3072x128 (absf y) 0xFF800000#32 reduces_S3072x128x128_S3072x128 (.inl rfl) rfl (ix2 r n) = _
  pointwise

/-- A least element over the last axis. -/
theorem least_ideal (z : FVec Ideal S3072x128x252 .f32) (r : Fin 3072) (n : Fin 128) :
    reduceFold reduces_S3072x128x252_S3072x128 FloatOps.minimumf (FloatOps.ofBits .f32 0x7F800000#32) z (ix2 r n)
    = (Finset.univ : Finset (Fin 252)).fold min (Ideal.ofBits .f32 2139095040#32) fun x => z (ix3 r n x) := by
  change multiReduction .minimumf [2] S3072x128 z 0x7F800000#32 reduces_S3072x128x252_S3072x128 (.inl rfl) rfl (ix2 r n) = _
  pointwise

/-- The scale is the kernel's scale of the head's maximum. -/
theorem scale_ideal (y : FVec Ideal S3072x128x128 .f32) (r : Fin 3072) (n : Fin 128) :
    scaleOf y (ix3 r n (0 : Fin 1)) = Cert.Quant.scale (Cert.Quant.top fun e => y (ix3 r n e)) := by
  rw [scaleOf_apply, least_ideal, ← rowMax_ideal, ← Cert.Quant.ref_eq]
  rfl

/-- The codes are the kernel's. -/
theorem codes_ideal (y : FVec Ideal S3072x128x128 .f32) (r : Fin 3072) (n l : Fin 128) :
    codesOf y (ix3 r n l) = Cert.Quant.code (F := Ideal) (y (ix3 r n l)) (Cert.Quant.inv (Cert.Quant.top fun e => y (ix3 r n e))) := by
  rw [codesOf_apply, scale_ideal, ← Cert.Quant.refInv_eq, Cert.Quant.ref_eq]

/-! ## The heads -/

/-- The scaled product, in the arguments. -/
theorem pay5_proj (c : Dev nD) (R : Fin 3072) (n : Fin 384) (e : Fin 128) :
    k0_pay5 (View.ld (iblk m c 0 t0_0) r0_1) (View.ld (iblk m c 2 t0_0) r0_2) (View.ld (iblk m c 1 t0_0) r0_3) (View.ld (iblk m c 3 t0_0) r0_4) (ix3 R n e) = Cert.Quant.proj (aX m c) (aXs m c) (aW m c) (aWs m c) R n e := by
  rw [pay5_apply _ _ _ _ R n e (Cert.Quant.col n e) rfl, prod_apply,
    show (View.ld (iblk m c 1 t0_0) r0_3) (ix2 R e) = aXs m c (ix2 R e) from by
      have h := (blk1 m c R e).trans (congrFun (V_main_arg1 m c) _); refine Eq.trans ?_ h; pointwise,
    show (View.ld (iblk m c 3 t0_0) r0_4) (ix2 n e) = aWs m c (ix1 (Cert.Quant.col n e)) from by
      have h := (blk3 m c n e).trans (host_ws m c n e); refine Eq.trans ?_ h; pointwise,
    show (fun k => (View.ld (iblk m c 0 t0_0) r0_1) (ix2 R k)) = fun k => aX m c (ix2 R k) from funext fun k => by
      have h := (blk0 m c R k).trans (congrFun (V_main_arg0 m c) _); refine Eq.trans ?_ h; pointwise,
    show (fun k => (View.ld (iblk m c 2 t0_0) r0_2) (ix2 k (Cert.Quant.col n e))) = fun k => aW m c (ix2 k (Cert.Quant.col n e)) from funext fun k => by
      have h := (blk2 m c k (Cert.Quant.col n e)).trans (congrFun (V_main_arg2 m c) _); refine Eq.trans ?_ h; pointwise]
  rfl

/-- The cosines as the kernel reads them. -/
theorem cos_ld (c : Dev nD) (R : Fin 3072) (e : Fin 64) : (View.ld (iblk m c 4 t0_0) r0_0) (ix2 R e) = Cert.Quant.cosOf (F := Ideal) (Cert.Quant.pos (aP m c) R) e := by
  have h := (blk4 m c R e).trans (host_cos m c R e); refine Eq.trans ?_ h; pointwise
/-- The sines. -/
theorem sin_ld (c : Dev nD) (R : Fin 3072) (e : Fin 64) : (View.ld (iblk m c 5 t0_0) r0_0) (ix2 R e) = Cert.Quant.sinOf (F := Ideal) (Cert.Quant.pos (aP m c) R) e := by
  have h := (blk5 m c R e).trans (host_sin m c R e); refine Eq.trans ?_ h; pointwise

/-- The lanes of a rotated head, by halves. -/
theorem halves (P : Fin 128 → Prop) (hlo : ∀ e : Fin 64, P ⟨e.val, by omega⟩) (hhi : ∀ e : Fin 64, P ⟨64 + e.val, by omega⟩) (e : Fin 128) : P e := by
  by_cases h : e.val < 64
  · exact hlo ⟨e.val, h⟩
  · have := hhi ⟨e.val - 64, by omega⟩
    rwa [show (⟨64 + (⟨e.val - 64, by omega⟩ : Fin 64).val, by simp only; omega⟩ : Fin 128) = e from Fin.ext (by simp only; omega)] at this

/-- The lower half of a turned head. -/
theorem rot_lo (y : Fin 128 → EReal) (p : BitVec 32) (e : Fin 64) : Cert.Quant.rot y p ⟨e.val, by omega⟩
    = y ⟨e.val, by omega⟩ * Cert.Quant.cosOf (F := Ideal) p e - y ⟨64 + e.val, by omega⟩ * Cert.Quant.sinOf (F := Ideal) p e := by
  unfold Cert.Quant.rot; rw [dif_pos e.isLt]
/-- The upper half. -/
theorem rot_hi (y : Fin 128 → EReal) (p : BitVec 32) (e : Fin 64) : Cert.Quant.rot y p ⟨64 + e.val, by omega⟩
    = y ⟨64 + e.val, by omega⟩ * Cert.Quant.cosOf (F := Ideal) p e + y ⟨e.val, by omega⟩ * Cert.Quant.sinOf (F := Ideal) p e := by
  unfold Cert.Quant.rot
  rw [dif_neg (show ¬ (64 + e.val < 64) by omega)]
  simp only [Nat.add_sub_cancel_left]

/-- A group's heads turned, from the scaled product, the cosines and the sines. -/
theorem pay8_turned (C S : Vec Ideal S3072x64 .f32) (x0 : Vec Ideal S3072x7168 .fp8e4m3) (x2 : Vec Ideal S7168x49152 .fp8e4m3) (x1 : Vec Ideal S3072x128 .f32) (x3 : Vec Ideal S384x128 .f32) (Y : Fin 384 → Fin 128 → EReal) (p : BitVec 32) (R : Fin 3072)
    (h5 : ∀ n e, k0_pay5 x0 x2 x1 x3 (ix3 R n e) = Y n e) (hc : ∀ e, C (ix2 R e) = Cert.Quant.cosOf (F := Ideal) p e) (hs : ∀ e, S (ix2 R e) = Cert.Quant.sinOf (F := Ideal) p e)
    (n e : Fin 128) : (k0_pay8 C S x0 x2 x1 x3) (ix3 R n e) = Cert.Quant.rot (Y ⟨n.val, by omega⟩) p e := by
  revert e
  refine halves _ (fun e => ?_) fun e => ?_
  · rw [pay8_lo, h5, h5, hc, hs, rot_lo]
    rfl
  · rw [pay8_hi, h5, h5, hc, hs, rot_hi]
    rfl

/-- A group's heads turned, from the scaled product, the cosines and the sines. -/
theorem pay13_turned (C S : Vec Ideal S3072x64 .f32) (x0 : Vec Ideal S3072x7168 .fp8e4m3) (x2 : Vec Ideal S7168x49152 .fp8e4m3) (x1 : Vec Ideal S3072x128 .f32) (x3 : Vec Ideal S384x128 .f32) (Y : Fin 384 → Fin 128 → EReal) (p : BitVec 32) (R : Fin 3072)
    (h5 : ∀ n e, k0_pay5 x0 x2 x1 x3 (ix3 R n e) = Y n e) (hc : ∀ e, C (ix2 R e) = Cert.Quant.cosOf (F := Ideal) p e) (hs : ∀ e, S (ix2 R e) = Cert.Quant.sinOf (F := Ideal) p e)
    (n e : Fin 128) : (k0_pay13 (k0_pay11 C S x0 x2 x1 x3) (k0_pay12 C S x0 x2 x1 x3)) (ix3 R n e) = Cert.Quant.rot (Y ⟨128 + n.val, by omega⟩) p e := by
  revert e
  refine halves _ (fun e => ?_) fun e => ?_
  · rw [pay13_lo, h5, h5, hc, hs, rot_lo]
    rfl
  · rw [pay13_hi, h5, h5, hc, hs, rot_hi]
    rfl

/-- The first group is the turned queries. -/
theorem grpQ_apply (c : Dev nD) (R : Fin 3072) (n e : Fin 128) :
    grpQ m c (ix3 R n e) = Cert.Quant.turned (aX m c) (aXs m c) (aW m c) (aWs m c) (aP m c) 0 (by decide) R n e := by
  refine (pay8_turned _ _ _ _ _ _ _ _ R (pay5_proj m c R) (cos_ld m c R) (sin_ld m c R) n e).trans ?_
  unfold Cert.Quant.turned
  rw [show (⟨0 + n.val, by omega⟩ : Fin 384) = ⟨n.val, by omega⟩ from Fin.ext (Nat.zero_add _)]

/-- The second group is the turned keys. -/
theorem grpK_apply (c : Dev nD) (R : Fin 3072) (n e : Fin 128) :
    grpK m c (ix3 R n e) = Cert.Quant.turned (aX m c) (aXs m c) (aW m c) (aWs m c) (aP m c) 128 (by decide) R n e :=
  pay13_turned _ _ _ _ _ _ _ _ R (pay5_proj m c R) (cos_ld m c R) (sin_ld m c R) n e

/-- The third group is the values. -/
theorem grpV_apply (c : Dev nD) (R : Fin 3072) (n e : Fin 128) :
    grpV m c (ix3 R n e) = Cert.Quant.plain (aX m c) (aXs m c) (aW m c) (aWs m c) R n e :=
  (pay7_apply _ _ _ _ R n e).trans (pay5_proj m c R _ e)

/-- The reshaped codes of a group. -/
theorem codes_out (y : FVec Ideal S3072x128x128 .f32) (zs : Fin 3072 → Fin 128 → Fin 128 → EReal) (h : ∀ R n e, y (ix3 R n e) = zs R n e) :
    (shapeCast S3072x16384 (codesOf y) shapeCasts_S3072x128x128_S3072x16384 : Vec Ideal S3072x16384 .fp8e4m3) = Cert.Quant.outCodes zs := by
  funext i
  obtain ⟨a, b, rfl⟩ : ∃ a b, i = ix2 a b := ⟨i 0, i 1, eq_ix2 i⟩
  have e : ∀ n : Fin 128, (fun l => y (ix3 a n l)) = zs a n := fun n => funext fun l => h a n l
  change _ = Cert.Quant.code (F := Ideal) (zs a ⟨b.val / 128, by omega⟩ ⟨b.val % 128, by omega⟩) (Cert.Quant.inv (Cert.Quant.top (zs a ⟨b.val / 128, by omega⟩)))
  rw [← e]
  refine Eq.trans ?_ (codes_ideal y a ⟨b.val / 128, by omega⟩ ⟨b.val % 128, by omega⟩)
  generalize codesOf y = w
  pointwise

/-- The reshaped scales of a group. -/
theorem scales_out (y : FVec Ideal S3072x128x128 .f32) (zs : Fin 3072 → Fin 128 → Fin 128 → EReal) (h : ∀ R n e, y (ix3 R n e) = zs R n e) :
    (shapeCast S3072x128 (scaleOf y) shapeCasts_S3072x128x1_S3072x128 : Vec Ideal S3072x128 .f32) = Cert.Quant.outScales zs := by
  funext i
  obtain ⟨a, b, rfl⟩ : ∃ a b, i = ix2 a b := ⟨i 0, i 1, eq_ix2 i⟩
  have e : ∀ n : Fin 128, (fun l => y (ix3 a n l)) = zs a n := fun n => funext fun l => h a n l
  unfold Cert.Quant.outScales
  refine Eq.trans ?_ ((scale_ideal y a b).trans (by rw [e]; rfl))
  generalize scaleOf y = w
  pointwise

/-- The results are what the lines after the region leave. -/
theorem results : θ_run defs (onTc (τ := τ) (main (F := Ideal))) ⟨m, fun _ => 0, ρ⟩ (fun r => ∀ c : Dev nD,
r.2.mem ((c.tc : Thread nD τ).loc main_v21) = Pipeline.afterTail₀ cfgs (dats m) 0 (V0 m) [hostOps1] c main_v21
      ∧ r.2.mem ((c.tc : Thread nD τ).loc main_v22) = Pipeline.afterTail₀ cfgs (dats m) 0 (V0 m) [hostOps1] c main_v22
      ∧ r.2.mem ((c.tc : Thread nD τ).loc main_v23) = Pipeline.afterTail₀ cfgs (dats m) 0 (V0 m) [hostOps1] c main_v23
      ∧ r.2.mem ((c.tc : Thread nD τ).loc main_v24) = Pipeline.afterTail₀ cfgs (dats m) 0 (V0 m) [hostOps1] c main_v24
      ∧ r.2.mem ((c.tc : Thread nD τ).loc main_v25) = Pipeline.afterTail₀ cfgs (dats m) 0 (V0 m) [hostOps1] c main_v25
      ∧ r.2.mem ((c.tc : Thread nD τ).loc main_v26) = Pipeline.afterTail₀ cfgs (dats m) 0 (V0 m) [hostOps1] c main_v26) := by
  run_from run_main m ρ

/-- THE REFERENCE'S VALUES over the extended reals, and its arguments unchanged. -/
theorem values : θ_run defs (onTc (τ := τ) (main (F := Ideal))) ⟨m, fun _ => 0, ρ⟩ (fun r => ∀ c : Dev nD,
      r.2.mem ((c.tc : Thread nD τ).loc main_v21) = Cert.Quant.outCodes (Cert.Quant.turned (aX m c) (aXs m c) (aW m c) (aWs m c) (aP m c) 0 (by decide))
      ∧ r.2.mem ((c.tc : Thread nD τ).loc main_v22) = Cert.Quant.outScales (Cert.Quant.turned (aX m c) (aXs m c) (aW m c) (aWs m c) (aP m c) 0 (by decide))
      ∧ r.2.mem ((c.tc : Thread nD τ).loc main_v23) = Cert.Quant.outCodes (Cert.Quant.turned (aX m c) (aXs m c) (aW m c) (aWs m c) (aP m c) 128 (by decide))
      ∧ r.2.mem ((c.tc : Thread nD τ).loc main_v24) = Cert.Quant.outScales (Cert.Quant.turned (aX m c) (aXs m c) (aW m c) (aWs m c) (aP m c) 128 (by decide))
      ∧ r.2.mem ((c.tc : Thread nD τ).loc main_v25) = Cert.Quant.outCodes (Cert.Quant.plain (aX m c) (aXs m c) (aW m c) (aWs m c))
      ∧ r.2.mem ((c.tc : Thread nD τ).loc main_v26) = Cert.Quant.outScales (Cert.Quant.plain (aX m c) (aXs m c) (aW m c) (aWs m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (θ_run_and (results m ρ) (unchanged m ρ))
  obtain ⟨r0, r1, r2, r3, r4, r5⟩ := h.1 c
  obtain ⟨u0, u1, u2, u3, u4⟩ := h.2 c
  exact ⟨(r0.trans (tail_0 m c)).trans ((congrArg (fun z => shapeCast _ z _) (out_6 m c)).trans (codes_out _ _ (grpQ_apply m c))),
    (r1.trans (tail_1 m c)).trans ((congrArg (fun z => shapeCast _ z _) (out_7 m c)).trans (scales_out _ _ (grpQ_apply m c))),
    (r2.trans (tail_2 m c)).trans ((congrArg (fun z => shapeCast _ z _) (out_8 m c)).trans (codes_out _ _ (grpK_apply m c))),
    (r3.trans (tail_3 m c)).trans ((congrArg (fun z => shapeCast _ z _) (out_9 m c)).trans (scales_out _ _ (grpK_apply m c))),
    (r4.trans (tail_4 m c)).trans ((congrArg (fun z => shapeCast _ z _) (out_10 m c)).trans (codes_out _ _ (grpV_apply m c))),
    (r5.trans (tail_5 m c)).trans ((congrArg (fun z => shapeCast _ z _) (out_11 m c)).trans (scales_out _ _ (grpV_apply m c))), u0, u1, u2, u3, u4⟩

end Cert.ProjRefIdeal.Hand

end
-- ==== Proof.ProjWords.lean ====
module

public import proofs.«01_k».proof.Defs
public import proofs.«01_k».proof.Proof.ProjData
public import proofs.«01_k».proof.Proof.Gen.Proj

/-! The projection at the words.  No rewrite was applied, so the ideal program and the word program are the same program, over any
    reading of the floats: the frame that `ProjData` proves for every reading is a frame of both. -/

@[expose] public section

noncomputable section

namespace Cert.Proof

open Idealize.ShloMosaic Idealize.SL.Sem

attribute [local instance] Cert.ProjIdeal.Gen.facts Cert.Proj.Gen.facts

variable {F : FTy → Type} [FloatOps F]

set_option maxHeartbeats 4000000 in
/-- The two programs have one kernel body. -/
theorem body_eq : @Cert.Proj.cc0_qkv_proj F _ _ = @Cert.ProjIdeal.cc0_qkv_proj F _ _ := rfl

set_option maxHeartbeats 4000000 in
/-- The two programs have one host part. -/
theorem main_eq : Cert.Proj.main (F := F) = Cert.ProjIdeal.main (F := F) := rfl

set_option maxHeartbeats 4000000 in
/-- The two tables of kernel bodies are one. -/
theorem defs₀_eq : Cert.Proj.defs₀ (F := F) = Cert.ProjIdeal.defs₀ (F := F) := by
  unfold Cert.Proj.defs₀ Cert.ProjIdeal.defs₀
  refine congrArg (Defs.onTc (nD := Cert.ProjIdeal.nD) (τ := Cert.ProjIdeal.τ) (sig := Cert.ProjIdeal.sig) (Λ := Cert.ProjIdeal.Λ₀)) ?_
  funext l x
  obtain ⟨l, hl⟩ := l
  obtain rfl : l = 0 := by omega
  rfl

set_option maxHeartbeats 4000000 in
/-- The two tables of bodies and pipelines are one. -/
theorem defs_eq : Cert.Proj.defs (F := F) = Cert.ProjIdeal.defs (F := F) := by
  unfold Cert.Proj.defs Cert.ProjIdeal.defs
  exact congrArg (fun d => Pipeline.defs (Cert.ProjIdeal.pcfgs (F := F)) d) defs₀_eq

set_option maxHeartbeats 4000000 in
/-- THE FRAME AT THE WORDS: the projection ends, its arguments unchanged and every semaphore at zero. -/
theorem proj_frame : Cert.quiescent_Proj (hProj := Cert.Proj.Gen.facts) := by
  intro m ρ _
  rw [defs_eq, main_eq]
  exact Cert.ProjIdeal.Hand.frame (F := Bits) m ρ

end Cert.Proof

end
-- ==== Proof.lean ====
module

public import proofs.«01_k».proof.Defs
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Frame
public import proofs.«01_k».proof.Proof.Gen.NormRefIdeal.Value
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjRefIdeal
public import proofs.«01_k».proof.Proof.Gen.ProjRefIdeal.Frame
public import proofs.«01_k».proof.Proof.NormVal
public import proofs.«01_k».proof.Proof.NormRefVal
public import proofs.«01_k».proof.Proof.ProjVal
public import proofs.«01_k».proof.Proof.RefFin
public import proofs.«01_k».proof.Proof.ProjWords
public import Idealize.ShloMosaic.Adequacy
public import Idealize.ShloMosaic.Init

@[expose] public section

noncomputable section

namespace Cert.Proof

open Idealize.ShloMosaic Idealize.SL.Sem

/-- THE NORM CALL'S VALUE CLAIM: started from equal tokens and weights, the kernel and the reference leave the same codes and scales of the
normalised tokens (each side's `values`), and both leave their arguments alone. -/
theorem norm_algebraic : Cert.algebraic_NormIdeal_NormRefIdeal (hNormIdeal := Cert.NormIdeal.Gen.facts) (hNormRefIdeal := Cert.NormRefIdeal.Gen.facts) := by
  intro m g m' g' _ hag
  refine ⟨_, _, Cert.NormIdeal.Hand.values m g, (θ_run _ _ _).mono (fun r h c => ?_) (Cert.NormRefIdeal.Hand.values m' g')⟩
  obtain ⟨h0, h1⟩ := hag c
  obtain ⟨r0, r1, u⟩ := h c
  have e0 : Cert.NormRefIdeal.Hand.aX m' c = Cert.NormIdeal.Hand.aX m c := h0
  have e1 : Cert.NormRefIdeal.Hand.aG m' c = Cert.NormIdeal.Hand.aG m c := h1
  rw [e0, e1] at r0 r1
  exact ⟨r0, r1, u⟩

/-- THE PROJECTION'S VALUE CLAIM: started from equal arguments, the kernel and the reference leave the same codes and scales of the
turned queries, of the turned keys and of the values (each side's `values`), and both leave their arguments alone. -/
theorem proj_algebraic : Cert.algebraic_ProjIdeal_ProjRefIdeal (hProjIdeal := Cert.ProjIdeal.Gen.facts) (hProjRefIdeal := Cert.ProjRefIdeal.Gen.facts) := by
  intro m g m' g' _ hag
  refine ⟨_, _, _, _, _, _, Cert.ProjIdeal.Hand.values m g, (θ_run _ _ _).mono (fun r h c => ?_) (Cert.ProjRefIdeal.Hand.values m' g')⟩
  obtain ⟨h0, h1, h2, h3, h4⟩ := hag c
  obtain ⟨r0, r1, r2, r3, r4, r5, u⟩ := h c
  have e0 : Cert.ProjRefIdeal.Hand.aX m' c = Cert.ProjIdeal.Hand.aX m c := h0
  have e1 : Cert.ProjRefIdeal.Hand.aXs m' c = Cert.ProjIdeal.Hand.aXs m c := h1
  have e2 : Cert.ProjRefIdeal.Hand.aW m' c = Cert.ProjIdeal.Hand.aW m c := h2
  have e3 : Cert.ProjRefIdeal.Hand.aWs m' c = Cert.ProjIdeal.Hand.aWs m c := h3
  have e4 : Cert.ProjRefIdeal.Hand.aP m' c = Cert.ProjIdeal.Hand.aP m c := h4
  rw [e0, e1, e2, e3, e4] at r0 r1 r2 r3
  rw [e0, e1, e2, e3] at r4 r5
  exact ⟨r0, r1, r2, r3, r4, r5, u⟩

/-- Everything claimed: the frames, the preservations and the value claims. -/
theorem claim : Cert.Claim := ⟨Cert.Norm.Gen.facts,
  Cert.NormIdeal.Gen.facts,
  Cert.NormRefIdeal.Gen.facts,
  Cert.Proj.Gen.facts,
  Cert.ProjIdeal.Gen.facts,
  Cert.ProjRefIdeal.Gen.facts,
  fun m ρ _ => Cert.Norm.Gen.frame m ρ,
  fun m ρ _ => Cert.NormIdeal.Gen.frame m ρ,
  fun m ρ _ => Cert.NormRefIdeal.Gen.frame m ρ,
  proj_frame,
  fun m ρ _ => Cert.ProjIdeal.Hand.frame (F := Ideal) m ρ,
  fun m ρ _ => Cert.ProjRefIdeal.Gen.frame m ρ,
  trivial,
  norm_algebraic,
  trivial,
  proj_algebraic⟩

end Cert.Proof

end
